-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v390) = v0 c
          ∧ r.2.mem ((c.tc : Thread Cert.ReferenceIdeal.nD Cert.ReferenceIdeal.τ).loc Cert.ReferenceIdeal.main_v391) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S2x256x8x8 : Shape := ⟨4, ![2, 256, 8, 8]⟩
abbrev S2x2 : Shape := ⟨2, ![2, 2]⟩
abbrev S2x10x4 : Shape := ⟨3, ![2, 10, 4]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S2x256x16384 : Shape := ⟨3, ![2, 256, 16384]⟩
abbrev S2x256x4096 : Shape := ⟨3, ![2, 256, 4096]⟩
abbrev S2x256x1024 : Shape := ⟨3, ![2, 256, 1024]⟩
abbrev S2x256x256 : Shape := ⟨3, ![2, 256, 256]⟩
abbrev S2x256x64 : Shape := ⟨3, ![2, 256, 64]⟩
abbrev S3x256x3x256 : Shape := ⟨4, ![3, 256, 3, 256]⟩
abbrev S768x768 : Shape := ⟨2, ![768, 768]⟩
abbrev S3x256 : Shape := ⟨2, ![3, 256]⟩
abbrev S256x3 : Shape := ⟨2, ![256, 3]⟩
abbrev S12x256 : Shape := ⟨2, ![12, 256]⟩
abbrev S256x12 : Shape := ⟨2, ![256, 12]⟩
abbrev S256x15 : Shape := ⟨2, ![256, 15]⟩
abbrev S1x256 : Shape := ⟨2, ![1, 256]⟩
abbrev S15 : Shape := ⟨1, ![15]⟩
abbrev S1x15 : Shape := ⟨2, ![1, 15]⟩
abbrev S2x15x25856 : Shape := ⟨3, ![2, 15, 25856]⟩
abbrev S130x144x256 : Shape := ⟨3, ![130, 144, 256]⟩
abbrev S66x80x256 : Shape := ⟨3, ![66, 80, 256]⟩
abbrev S34x48x256 : Shape := ⟨3, ![34, 48, 256]⟩
abbrev S18x32x256 : Shape := ⟨3, ![18, 32, 256]⟩
abbrev S10x32x256 : Shape := ⟨3, ![10, 32, 256]⟩
abbrev S15x1 : Shape := ⟨2, ![15, 1]⟩
abbrev S1x256x2048 : Shape := ⟨3, ![1, 256, 2048]⟩
abbrev S256x2048 : Shape := ⟨2, ![256, 2048]⟩
abbrev S2048x256 : Shape := ⟨2, ![2048, 256]⟩
abbrev S16x128x256 : Shape := ⟨3, ![16, 128, 256]⟩
abbrev S32x64x256 : Shape := ⟨3, ![32, 64, 256]⟩
abbrev S1x256x1024 : Shape := ⟨3, ![1, 256, 1024]⟩
abbrev S256x1024 : Shape := ⟨2, ![256, 1024]⟩
abbrev S1024x256 : Shape := ⟨2, ![1024, 256]⟩
abbrev S32x32x256 : Shape := ⟨3, ![32, 32, 256]⟩
abbrev S1x256x256 : Shape := ⟨3, ![1, 256, 256]⟩
abbrev S256x256 : Shape := ⟨2, ![256, 256]⟩
abbrev S16x16x256 : Shape := ⟨3, ![16, 16, 256]⟩
abbrev S1x256x64 : Shape := ⟨3, ![1, 256, 64]⟩
abbrev S256x64 : Shape := ⟨2, ![256, 64]⟩
abbrev S64x256 : Shape := ⟨2, ![64, 256]⟩
abbrev S8x8x256 : Shape := ⟨3, ![8, 8, 256]⟩
abbrev S16x144x256 : Shape := ⟨3, ![16, 144, 256]⟩
abbrev S2304x256 : Shape := ⟨2, ![2304, 256]⟩
abbrev S2304x768 : Shape := ⟨2, ![2304, 768]⟩
abbrev S2303x256 : Shape := ⟨2, ![2303, 256]⟩
abbrev S15x2304 : Shape := ⟨2, ![15, 2304]⟩
abbrev S1x15x2304 : Shape := ⟨3, ![1, 15, 2304]⟩
abbrev S32x80x256 : Shape := ⟨3, ![32, 80, 256]⟩
abbrev S2560x256 : Shape := ⟨2, ![2560, 256]⟩
abbrev S2560x768 : Shape := ⟨2, ![2560, 768]⟩
abbrev S2559x256 : Shape := ⟨2, ![2559, 256]⟩
abbrev S15x2560 : Shape := ⟨2, ![15, 2560]⟩
abbrev S1x15x2560 : Shape := ⟨3, ![1, 15, 2560]⟩
abbrev S32x48x256 : Shape := ⟨3, ![32, 48, 256]⟩
abbrev S1536x256 : Shape := ⟨2, ![1536, 256]⟩
abbrev S1536x768 : Shape := ⟨2, ![1536, 768]⟩
abbrev S1535x256 : Shape := ⟨2, ![1535, 256]⟩
abbrev S15x1536 : Shape := ⟨2, ![15, 1536]⟩
abbrev S1x15x1536 : Shape := ⟨3, ![1, 15, 1536]⟩
abbrev S16x32x256 : Shape := ⟨3, ![16, 32, 256]⟩
abbrev S512x256 : Shape := ⟨2, ![512, 256]⟩
abbrev S512x768 : Shape := ⟨2, ![512, 768]⟩
abbrev S511x256 : Shape := ⟨2, ![511, 256]⟩
abbrev S15x512 : Shape := ⟨2, ![15, 512]⟩
abbrev S1x15x512 : Shape := ⟨3, ![1, 15, 512]⟩
abbrev S8x32x256 : Shape := ⟨3, ![8, 32, 256]⟩
abbrev S256x768 : Shape := ⟨2, ![256, 768]⟩
abbrev S255x256 : Shape := ⟨2, ![255, 256]⟩
abbrev S15x256 : Shape := ⟨2, ![15, 256]⟩
abbrev S1x15x256 : Shape := ⟨3, ![1, 15, 256]⟩
abbrev S2x25856x15 : Shape := ⟨3, ![2, 25856, 15]⟩
abbrev S2x18432x15 : Shape := ⟨3, ![2, 18432, 15]⟩
abbrev S2x128x144x15 : Shape := ⟨4, ![2, 128, 144, 15]⟩
abbrev S2x128x128x15 : Shape := ⟨4, ![2, 128, 128, 15]⟩
abbrev S2x16384x15 : Shape := ⟨3, ![2, 16384, 15]⟩
abbrev S2x5120x15 : Shape := ⟨3, ![2, 5120, 15]⟩
abbrev S2x64x80x15 : Shape := ⟨4, ![2, 64, 80, 15]⟩
abbrev S2x64x64x15 : Shape := ⟨4, ![2, 64, 64, 15]⟩
abbrev S2x4096x15 : Shape := ⟨3, ![2, 4096, 15]⟩
abbrev S2x1536x15 : Shape := ⟨3, ![2, 1536, 15]⟩
abbrev S2x32x48x15 : Shape := ⟨4, ![2, 32, 48, 15]⟩
abbrev S2x32x32x15 : Shape := ⟨4, ![2, 32, 32, 15]⟩
abbrev S2x1024x15 : Shape := ⟨3, ![2, 1024, 15]⟩
abbrev S2x512x15 : Shape := ⟨3, ![2, 512, 15]⟩
abbrev S2x16x32x15 : Shape := ⟨4, ![2, 16, 32, 15]⟩
abbrev S2x16x16x15 : Shape := ⟨4, ![2, 16, 16, 15]⟩
abbrev S2x256x15 : Shape := ⟨3, ![2, 256, 15]⟩
abbrev S2x8x32x15 : Shape := ⟨4, ![2, 8, 32, 15]⟩
abbrev S2x8x8x15 : Shape := ⟨4, ![2, 8, 8, 15]⟩
abbrev S2x64x15 : Shape := ⟨3, ![2, 64, 15]⟩
abbrev S2x21824x15 : Shape := ⟨3, ![2, 21824, 15]⟩
abbrev S2x21824x3 : Shape := ⟨3, ![2, 21824, 3]⟩
abbrev S2x65472 : Shape := ⟨2, ![2, 65472]⟩
abbrev S2x21824x12 : Shape := ⟨3, ![2, 21824, 12]⟩
abbrev S2x65472x4 : Shape := ⟨3, ![2, 65472, 4]⟩

abbrev nBuf : Space → Nat
  | .hbm => 62
  | .vmem => 15
  | .smem => 0
  | _ => 0

abbrev bufTy : (tb : Table) → Fin (tcTables nBuf tb) → BufTy
  | .hbm, ⟨0, _⟩ => ⟨S2x256x128x128, .f32⟩
  | .hbm, ⟨1, _⟩ => ⟨S2x256x64x64, .f32⟩
  | .hbm, ⟨2, _⟩ => ⟨S2x256x32x32, .f32⟩
  | .hbm, ⟨3, _⟩ => ⟨S2x256x16x16, .f32⟩
  | .hbm, ⟨4, _⟩ => ⟨S2x256x8x8, .f32⟩
  | .hbm, ⟨5, _⟩ => ⟨S2x2, .i32⟩
  | .hbm, ⟨6, _⟩ => ⟨S2x10x4, .f32⟩
  | .hbm, ⟨7, _⟩ => ⟨S256x256x3x3, .f32⟩
  | .hbm, ⟨8, _⟩ => ⟨S256, .f32⟩
  | .hbm, ⟨9, _⟩ => ⟨S3x256x1x1, .f32⟩
  | .hbm, ⟨10, _⟩ => ⟨S3, .f32⟩
  | .hbm, ⟨11, _⟩ => ⟨S12x256x1x1, .f32⟩
  | .hbm, ⟨12, _⟩ => ⟨S12, .f32⟩
  | .hbm, ⟨13, _⟩ => ⟨S2x256x128x128, .bf16⟩
  | .hbm, ⟨14, _⟩ => ⟨S2x256x16384, .bf16⟩
  | .hbm, ⟨15, _⟩ => ⟨S2x256x64x64, .bf16⟩
  | .hbm, ⟨16, _⟩ => ⟨S2x256x4096, .bf16⟩
  | .hbm, ⟨17, _⟩ => ⟨S2x256x32x32, .bf16⟩
  | .hbm, ⟨18, _⟩ => ⟨S2x256x1024, .bf16⟩
  | .hbm, ⟨19, _⟩ => ⟨S2x256x16x16, .bf16⟩
  | .hbm, ⟨20, _⟩ => ⟨S2x256x256, .bf16⟩
  | .hbm, ⟨21, _⟩ => ⟨S2x256x8x8, .bf16⟩
  | .hbm, ⟨22, _⟩ => ⟨S2x256x64, .bf16⟩
  | .hbm, ⟨23, _⟩ => ⟨S3x256x3x256, .f32⟩
  | .hbm, ⟨24, _⟩ => ⟨S768x768, .f32⟩
  | .hbm, ⟨25, _⟩ => ⟨S768x768, .bf16⟩
  | .hbm, ⟨26, _⟩ => ⟨S3x256, .f32⟩
  | .hbm, ⟨27, _⟩ => ⟨S256x3, .f32⟩
  | .hbm, ⟨28, _⟩ => ⟨S12x256, .f32⟩
  | .hbm, ⟨29, _⟩ => ⟨S256x12, .f32⟩
  | .hbm, ⟨30, _⟩ => ⟨S256x15, .f32⟩
  | .hbm, ⟨31, _⟩ => ⟨S256x15, .bf16⟩
  | .hbm, ⟨32, _⟩ => ⟨S1x256, .f32⟩
  | .hbm, ⟨33, _⟩ => ⟨S15, .f32⟩
  | .hbm, ⟨34, _⟩ => ⟨S1x15, .f32⟩
  | .hbm, ⟨35, _⟩ => ⟨S2x15x25856, .f32⟩
  | .hbm, ⟨36, _⟩ => ⟨S2x25856x15, .f32⟩
  | .hbm, ⟨37, _⟩ => ⟨S2x18432x15, .f32⟩
  | .hbm, ⟨38, _⟩ => ⟨S2x128x144x15, .f32⟩
  | .hbm, ⟨39, _⟩ => ⟨S2x128x128x15, .f32⟩
  | .hbm, ⟨40, _⟩ => ⟨S2x16384x15, .f32⟩
  | .hbm, ⟨41, _⟩ => ⟨S2x5120x15, .f32⟩
  | .hbm, ⟨42, _⟩ => ⟨S2x64x80x15, .f32⟩
  | .hbm, ⟨43, _⟩ => ⟨S2x64x64x15, .f32⟩
  | .hbm, ⟨44, _⟩ => ⟨S2x4096x15, .f32⟩
  | .hbm, ⟨45, _⟩ => ⟨S2x1536x15, .f32⟩
  | .hbm, ⟨46, _⟩ => ⟨S2x32x48x15, .f32⟩
  | .hbm, ⟨47, _⟩ => ⟨S2x32x32x15, .f32⟩
  | .hbm, ⟨48, _⟩ => ⟨S2x1024x15, .f32⟩
  | .hbm, ⟨49, _⟩ => ⟨S2x512x15, .f32⟩
  | .hbm, ⟨50, _⟩ => ⟨S2x16x32x15, .f32⟩
  | .hbm, ⟨51, _⟩ => ⟨S2x16x16x15, .f32⟩
  | .hbm, ⟨52, _⟩ => ⟨S2x256x15, .f32⟩
  | .hbm, ⟨53, _⟩ => ⟨S2x256x15, .f32⟩
  | .hbm, ⟨54, _⟩ => ⟨S2x8x32x15, .f32⟩
  | .hbm, ⟨55, _⟩ => ⟨S2x8x8x15, .f32⟩
  | .hbm, ⟨56, _⟩ => ⟨S2x64x15, .f32⟩
  | .hbm, ⟨57, _⟩ => ⟨S2x21824x15, .f32⟩
  | .hbm, ⟨58, _⟩ => ⟨S2x21824x3, .f32⟩
  | .hbm, ⟨59, _⟩ => ⟨S2x65472, .f32⟩
  | .hbm, ⟨60, _⟩ => ⟨S2x21824x12, .f32⟩
  | .hbm, ⟨61, _⟩ => ⟨S2x65472x4, .f32⟩
  | .local _ .vmem, ⟨0, _⟩ => ⟨S2x256x16384, .bf16⟩
  | .local _ .vmem, ⟨1, _⟩ => ⟨S2x256x4096, .bf16⟩
  | .local _ .vmem, ⟨2, _⟩ => ⟨S2x256x1024, .bf16⟩
  | .local _ .vmem, ⟨3, _⟩ => ⟨S2x256x256, .bf16⟩
  | .local _ .vmem, ⟨4, _⟩ => ⟨S2x256x64, .bf16⟩
  | .local _ .vmem, ⟨5, _⟩ => ⟨S768x768, .bf16⟩
  | .local _ .vmem, ⟨6, _⟩ => ⟨S256x15, .bf16⟩
  | .local _ .vmem, ⟨7, _⟩ => ⟨S1x256, .f32⟩
  | .local _ .vmem, ⟨8, _⟩ => ⟨S1x15, .f32⟩
  | .local _ .vmem, ⟨9, _⟩ => ⟨S2x15x25856, .f32⟩
  | .local _ .vmem, ⟨10, _⟩ => ⟨S130x144x256, .bf16⟩
  | .local _ .vmem, ⟨11, _⟩ => ⟨S66x80x256, .bf16⟩
  | .local _ .vmem, ⟨12, _⟩ => ⟨S34x48x256, .bf16⟩
  | .local _ .vmem, ⟨13, _⟩ => ⟨S18x32x256, .bf16⟩
  | .local _ .vmem, ⟨14, _⟩ => ⟨S10x32x256, .bf16⟩
  | _, _ => ⟨S2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x15 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x15 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x15x25856 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S2x256x8x8 : Shape := ⟨4, ![2, 256, 8, 8]⟩
abbrev S2x2 : Shape := ⟨2, ![2, 2]⟩
abbrev S2x10x4 : Shape := ⟨3, ![2, 10, 4]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x130x130 : Shape := ⟨4, ![2, 256, 130, 130]⟩
abbrev S256x256x1x1 : Shape := ⟨4, ![256, 256, 1, 1]⟩
abbrev S256x256 : Shape := ⟨2, ![256, 256]⟩
abbrev S256x2x128x128 : Shape := ⟨4, ![256, 2, 128, 128]⟩
abbrev S1x256x1x1 : Shape := ⟨4, ![1, 256, 1, 1]⟩
abbrev S3x256 : Shape := ⟨2, ![3, 256]⟩
abbrev S3x2x128x128 : Shape := ⟨4, ![3, 2, 128, 128]⟩
abbrev S2x3x128x128 : Shape := ⟨4, ![2, 3, 128, 128]⟩
abbrev S1x3x1x1 : Shape := ⟨4, ![1, 3, 1, 1]⟩
abbrev S12x256 : Shape := ⟨2, ![12, 256]⟩
abbrev S12x2x128x128 : Shape := ⟨4, ![12, 2, 128, 128]⟩
abbrev S2x12x128x128 : Shape := ⟨4, ![2, 12, 128, 128]⟩
abbrev S1x12x1x1 : Shape := ⟨4, ![1, 12, 1, 1]⟩
abbrev S2x128x128x3 : Shape := ⟨4, ![2, 128, 128, 3]⟩
abbrev S2x49152 : Shape := ⟨2, ![2, 49152]⟩
abbrev S2x3x4x128x128 : Shape := ⟨5, ![2, 3, 4, 128, 128]⟩
abbrev S2x128x128x3x4 : Shape := ⟨5, ![2, 128, 128, 3, 4]⟩
abbrev S2x49152x4 : Shape := ⟨3, ![2, 49152, 4]⟩
abbrev S2x256x66x66 : Shape := ⟨4, ![2, 256, 66, 66]⟩
abbrev S256x2x64x64 : Shape := ⟨4, ![256, 2, 64, 64]⟩
abbrev S3x2x64x64 : Shape := ⟨4, ![3, 2, 64, 64]⟩
abbrev S2x3x64x64 : Shape := ⟨4, ![2, 3, 64, 64]⟩
abbrev S12x2x64x64 : Shape := ⟨4, ![12, 2, 64, 64]⟩
abbrev S2x12x64x64 : Shape := ⟨4, ![2, 12, 64, 64]⟩
abbrev S2x64x64x3 : Shape := ⟨4, ![2, 64, 64, 3]⟩
abbrev S2x12288 : Shape := ⟨2, ![2, 12288]⟩
abbrev S2x3x4x64x64 : Shape := ⟨5, ![2, 3, 4, 64, 64]⟩
abbrev S2x64x64x3x4 : Shape := ⟨5, ![2, 64, 64, 3, 4]⟩
abbrev S2x12288x4 : Shape := ⟨3, ![2, 12288, 4]⟩
abbrev S2x256x34x34 : Shape := ⟨4, ![2, 256, 34, 34]⟩
abbrev S256x2x32x32 : Shape := ⟨4, ![256, 2, 32, 32]⟩
abbrev S3x2x32x32 : Shape := ⟨4, ![3, 2, 32, 32]⟩
abbrev S2x3x32x32 : Shape := ⟨4, ![2, 3, 32, 32]⟩
abbrev S12x2x32x32 : Shape := ⟨4, ![12, 2, 32, 32]⟩
abbrev S2x12x32x32 : Shape := ⟨4, ![2, 12, 32, 32]⟩
abbrev S2x32x32x3 : Shape := ⟨4, ![2, 32, 32, 3]⟩
abbrev S2x3072 : Shape := ⟨2, ![2, 3072]⟩
abbrev S2x3x4x32x32 : Shape := ⟨5, ![2, 3, 4, 32, 32]⟩
abbrev S2x32x32x3x4 : Shape := ⟨5, ![2, 32, 32, 3, 4]⟩
abbrev S2x3072x4 : Shape := ⟨3, ![2, 3072, 4]⟩
abbrev S2x256x18x18 : Shape := ⟨4, ![2, 256, 18, 18]⟩
abbrev S256x2x16x16 : Shape := ⟨4, ![256, 2, 16, 16]⟩
abbrev S3x2x16x16 : Shape := ⟨4, ![3, 2, 16, 16]⟩
abbrev S2x3x16x16 : Shape := ⟨4, ![2, 3, 16, 16]⟩
abbrev S12x2x16x16 : Shape := ⟨4, ![12, 2, 16, 16]⟩
abbrev S2x12x16x16 : Shape := ⟨4, ![2, 12, 16, 16]⟩
abbrev S2x16x16x3 : Shape := ⟨4, ![2, 16, 16, 3]⟩
abbrev S2x768 : Shape := ⟨2, ![2, 768]⟩
abbrev S2x3x4x16x16 : Shape := ⟨5, ![2, 3, 4, 16, 16]⟩
abbrev S2x16x16x3x4 : Shape := ⟨5, ![2, 16, 16, 3, 4]⟩
abbrev S2x768x4 : Shape := ⟨3, ![2, 768, 4]⟩
abbrev S2x256x10x10 : Shape := ⟨4, ![2, 256, 10, 10]⟩
abbrev S256x2x8x8 : Shape := ⟨4, ![256, 2, 8, 8]⟩
abbrev S3x2x8x8 : Shape := ⟨4, ![3, 2, 8, 8]⟩
abbrev S2x3x8x8 : Shape := ⟨4, ![2, 3, 8, 8]⟩
abbrev S12x2x8x8 : Shape := ⟨4, ![12, 2, 8, 8]⟩
abbrev S2x12x8x8 : Shape := ⟨4, ![2, 12, 8, 8]⟩
abbrev S2x8x8x3 : Shape := ⟨4, ![2, 8, 8, 3]⟩
abbrev S2x192 : Shape := ⟨2, ![2, 192]⟩
abbrev S2x3x4x8x8 : Shape := ⟨5, ![2, 3, 4, 8, 8]⟩
abbrev S2x8x8x3x4 : Shape := ⟨5, ![2, 8, 8, 3, 4]⟩
abbrev S2x192x4 : Shape := ⟨3, ![2, 192, 4]⟩
abbrev S2x65472 : Shape := ⟨2, ![2, 65472]⟩
abbrev S2x65472x4 : Shape := ⟨3, ![2, 65472, 4]⟩

abbrev nBuf : Space → Nat
  | .hbm => 425
  | .vmem => 0
  | .smem => 0
  | _ => 0

abbrev hbmTy0_0 (i : Nat) : BufTy := match i % 128 with
  | 0 => ⟨S2x256x128x128, .f32⟩
  | 1 => ⟨S2x256x64x64, .f32⟩
  | 2 => ⟨S2x256x32x32, .f32⟩
  | 3 => ⟨S2x256x16x16, .f32⟩
  | 4 => ⟨S2x256x8x8, .f32⟩
  | 5 => ⟨S2x2, .i32⟩
  | 6 => ⟨S2x10x4, .f32⟩
  | 7 => ⟨S256x256x3x3, .f32⟩
  | 8 => ⟨S256, .f32⟩
  | 9 => ⟨S3x256x1x1, .f32⟩
  | 10 => ⟨S3, .f32⟩
  | 11 => ⟨S12x256x1x1, .f32⟩
  | 12 => ⟨S12, .f32⟩
  | 13 => ⟨S_, .i32⟩
  | 14 => ⟨S_, .f32⟩
  | 15 => ⟨S2x256x130x130, .f32⟩
  | 16 => ⟨S2x256x128x128, .f32⟩
  | 17 => ⟨S256x256x1x1, .f32⟩
  | 18 => ⟨S256x256, .f32⟩
  | 19 => ⟨S256x2x128x128, .f32⟩
  | 20 => ⟨S2x256x128x128, .f32⟩
  | 21 => ⟨S_, .f32⟩
  | 22 => ⟨S2x256x128x128, .f32⟩
  | 23 => ⟨S2x256x128x128, .f32⟩
  | 24 => ⟨S2x256x128x128, .f32⟩
  | 25 => ⟨S256x256x1x1, .f32⟩
  | 26 => ⟨S256x256, .f32⟩
  | 27 => ⟨S256x2x128x128, .f32⟩
  | 28 => ⟨S2x256x128x128, .f32⟩
  | 29 => ⟨S2x256x128x128, .f32⟩
  | 30 => ⟨S2x256x128x128, .f32⟩
  | 31 => ⟨S256x256x1x1, .f32⟩
  | 32 => ⟨S256x256, .f32⟩
  | 33 => ⟨S256x2x128x128, .f32⟩
  | 34 => ⟨S2x256x128x128, .f32⟩
  | 35 => ⟨S2x256x128x128, .f32⟩
  | 36 => ⟨S2x256x128x128, .f32⟩
  | 37 => ⟨S256x256x1x1, .f32⟩
  | 38 => ⟨S256x256, .f32⟩
  | 39 => ⟨S256x2x128x128, .f32⟩
  | 40 => ⟨S2x256x128x128, .f32⟩
  | 41 => ⟨S2x256x128x128, .f32⟩
  | 42 => ⟨S2x256x128x128, .f32⟩
  | 43 => ⟨S256x256x1x1, .f32⟩
  | 44 => ⟨S256x256, .f32⟩
  | 45 => ⟨S256x2x128x128, .f32⟩
  | 46 => ⟨S2x256x128x128, .f32⟩
  | 47 => ⟨S2x256x128x128, .f32⟩
  | 48 => ⟨S2x256x128x128, .f32⟩
  | 49 => ⟨S256x256x1x1, .f32⟩
  | 50 => ⟨S256x256, .f32⟩
  | 51 => ⟨S256x2x128x128, .f32⟩
  | 52 => ⟨S2x256x128x128, .f32⟩
  | 53 => ⟨S2x256x128x128, .f32⟩
  | 54 => ⟨S2x256x128x128, .f32⟩
  | 55 => ⟨S256x256x1x1, .f32⟩
  | 56 => ⟨S256x256, .f32⟩
  | 57 => ⟨S256x2x128x128, .f32⟩
  | 58 => ⟨S2x256x128x128, .f32⟩
  | 59 => ⟨S2x256x128x128, .f32⟩
  | 60 => ⟨S2x256x128x128, .f32⟩
  | 61 => ⟨S256x256x1x1, .f32⟩
  | 62 => ⟨S256x256, .f32⟩
  | 63 => ⟨S256x2x128x128, .f32⟩
  | 64 => ⟨S2x256x128x128, .f32⟩
  | 65 => ⟨S2x256x128x128, .f32⟩
  | 66 => ⟨S2x256x128x128, .f32⟩
  | 67 => ⟨S256x256x1x1, .f32⟩
  | 68 => ⟨S256x256, .f32⟩
  | 69 => ⟨S256x2x128x128, .f32⟩
  | 70 => ⟨S2x256x128x128, .f32⟩
  | 71 => ⟨S2x256x128x128, .f32⟩
  | 72 => ⟨S1x256x1x1, .f32⟩
  | 73 => ⟨S2x256x128x128, .f32⟩
  | 74 => ⟨S2x256x128x128, .f32⟩
  | 75 => ⟨S_, .f32⟩
  | 76 => ⟨S2x256x128x128, .f32⟩
  | 77 => ⟨S2x256x128x128, .f32⟩
  | 78 => ⟨S3x256, .f32⟩
  | 79 => ⟨S3x2x128x128, .f32⟩
  | 80 => ⟨S2x3x128x128, .f32⟩
  | 81 => ⟨S1x3x1x1, .f32⟩
  | 82 => ⟨S2x3x128x128, .f32⟩
  | 83 => ⟨S2x3x128x128, .f32⟩
  | 84 => ⟨S12x256, .f32⟩
  | 85 => ⟨S12x2x128x128, .f32⟩
  | 86 => ⟨S2x12x128x128, .f32⟩
  | 87 => ⟨S1x12x1x1, .f32⟩
  | 88 => ⟨S2x12x128x128, .f32⟩
  | 89 => ⟨S2x12x128x128, .f32⟩
  | 90 => ⟨S2x128x128x3, .f32⟩
  | 91 => ⟨S2x49152, .f32⟩
  | 92 => ⟨S2x3x4x128x128, .f32⟩
  | 93 => ⟨S2x128x128x3x4, .f32⟩
  | 94 => ⟨S2x49152x4, .f32⟩
  | 95 => ⟨S_, .i32⟩
  | 96 => ⟨S_, .f32⟩
  | 97 => ⟨S2x256x66x66, .f32⟩
  | 98 => ⟨S2x256x64x64, .f32⟩
  | 99 => ⟨S256x256x1x1, .f32⟩
  | 100 => ⟨S256x256, .f32⟩
  | 101 => ⟨S256x2x64x64, .f32⟩
  | 102 => ⟨S2x256x64x64, .f32⟩
  | 103 => ⟨S_, .f32⟩
  | 104 => ⟨S2x256x64x64, .f32⟩
  | 105 => ⟨S2x256x64x64, .f32⟩
  | 106 => ⟨S2x256x64x64, .f32⟩
  | 107 => ⟨S256x256x1x1, .f32⟩
  | 108 => ⟨S256x256, .f32⟩
  | 109 => ⟨S256x2x64x64, .f32⟩
  | 110 => ⟨S2x256x64x64, .f32⟩
  | 111 => ⟨S2x256x64x64, .f32⟩
  | 112 => ⟨S2x256x64x64, .f32⟩
  | 113 => ⟨S256x256x1x1, .f32⟩
  | 114 => ⟨S256x256, .f32⟩
  | 115 => ⟨S256x2x64x64, .f32⟩
  | 116 => ⟨S2x256x64x64, .f32⟩
  | 117 => ⟨S2x256x64x64, .f32⟩
  | 118 => ⟨S2x256x64x64, .f32⟩
  | 119 => ⟨S256x256x1x1, .f32⟩
  | 120 => ⟨S256x256, .f32⟩
  | 121 => ⟨S256x2x64x64, .f32⟩
  | 122 => ⟨S2x256x64x64, .f32⟩
  | 123 => ⟨S2x256x64x64, .f32⟩
  | 124 => ⟨S2x256x64x64, .f32⟩
  | 125 => ⟨S256x256x1x1, .f32⟩
  | 126 => ⟨S256x256, .f32⟩
  | 127 => ⟨S256x2x64x64, .f32⟩
  | _ => ⟨S2x256x128x128, .f32⟩

abbrev hbmTy0_1 (i : Nat) : BufTy := match i % 128 with
  | 0 => ⟨S2x256x64x64, .f32⟩
  | 1 => ⟨S2x256x64x64, .f32⟩
  | 2 => ⟨S2x256x64x64, .f32⟩
  | 3 => ⟨S256x256x1x1, .f32⟩
  | 4 => ⟨S256x256, .f32⟩
  | 5 => ⟨S256x2x64x64, .f32⟩
  | 6 => ⟨S2x256x64x64, .f32⟩
  | 7 => ⟨S2x256x64x64, .f32⟩
  | 8 => ⟨S2x256x64x64, .f32⟩
  | 9 => ⟨S256x256x1x1, .f32⟩
  | 10 => ⟨S256x256, .f32⟩
  | 11 => ⟨S256x2x64x64, .f32⟩
  | 12 => ⟨S2x256x64x64, .f32⟩
  | 13 => ⟨S2x256x64x64, .f32⟩
  | 14 => ⟨S2x256x64x64, .f32⟩
  | 15 => ⟨S256x256x1x1, .f32⟩
  | 16 => ⟨S256x256, .f32⟩
  | 17 => ⟨S256x2x64x64, .f32⟩
  | 18 => ⟨S2x256x64x64, .f32⟩
  | 19 => ⟨S2x256x64x64, .f32⟩
  | 20 => ⟨S2x256x64x64, .f32⟩
  | 21 => ⟨S256x256x1x1, .f32⟩
  | 22 => ⟨S256x256, .f32⟩
  | 23 => ⟨S256x2x64x64, .f32⟩
  | 24 => ⟨S2x256x64x64, .f32⟩
  | 25 => ⟨S2x256x64x64, .f32⟩
  | 26 => ⟨S1x256x1x1, .f32⟩
  | 27 => ⟨S2x256x64x64, .f32⟩
  | 28 => ⟨S2x256x64x64, .f32⟩
  | 29 => ⟨S_, .f32⟩
  | 30 => ⟨S2x256x64x64, .f32⟩
  | 31 => ⟨S2x256x64x64, .f32⟩
  | 32 => ⟨S3x256, .f32⟩
  | 33 => ⟨S3x2x64x64, .f32⟩
  | 34 => ⟨S2x3x64x64, .f32⟩
  | 35 => ⟨S1x3x1x1, .f32⟩
  | 36 => ⟨S2x3x64x64, .f32⟩
  | 37 => ⟨S2x3x64x64, .f32⟩
  | 38 => ⟨S12x256, .f32⟩
  | 39 => ⟨S12x2x64x64, .f32⟩
  | 40 => ⟨S2x12x64x64, .f32⟩
  | 41 => ⟨S1x12x1x1, .f32⟩
  | 42 => ⟨S2x12x64x64, .f32⟩
  | 43 => ⟨S2x12x64x64, .f32⟩
  | 44 => ⟨S2x64x64x3, .f32⟩
  | 45 => ⟨S2x12288, .f32⟩
  | 46 => ⟨S2x3x4x64x64, .f32⟩
  | 47 => ⟨S2x64x64x3x4, .f32⟩
  | 48 => ⟨S2x12288x4, .f32⟩
  | 49 => ⟨S_, .i32⟩
  | 50 => ⟨S_, .f32⟩
  | 51 => ⟨S2x256x34x34, .f32⟩
  | 52 => ⟨S2x256x32x32, .f32⟩
  | 53 => ⟨S256x256x1x1, .f32⟩
  | 54 => ⟨S256x256, .f32⟩
  | 55 => ⟨S256x2x32x32, .f32⟩
  | 56 => ⟨S2x256x32x32, .f32⟩
  | 57 => ⟨S_, .f32⟩
  | 58 => ⟨S2x256x32x32, .f32⟩
  | 59 => ⟨S2x256x32x32, .f32⟩
  | 60 => ⟨S2x256x32x32, .f32⟩
  | 61 => ⟨S256x256x1x1, .f32⟩
  | 62 => ⟨S256x256, .f32⟩
  | 63 => ⟨S256x2x32x32, .f32⟩
  | 64 => ⟨S2x256x32x32, .f32⟩
  | 65 => ⟨S2x256x32x32, .f32⟩
  | 66 => ⟨S2x256x32x32, .f32⟩
  | 67 => ⟨S256x256x1x1, .f32⟩
  | 68 => ⟨S256x256, .f32⟩
  | 69 => ⟨S256x2x32x32, .f32⟩
  | 70 => ⟨S2x256x32x32, .f32⟩
  | 71 => ⟨S2x256x32x32, .f32⟩
  | 72 => ⟨S2x256x32x32, .f32⟩
  | 73 => ⟨S256x256x1x1, .f32⟩
  | 74 => ⟨S256x256, .f32⟩
  | 75 => ⟨S256x2x32x32, .f32⟩
  | 76 => ⟨S2x256x32x32, .f32⟩
  | 77 => ⟨S2x256x32x32, .f32⟩
  | 78 => ⟨S2x256x32x32, .f32⟩
  | 79 => ⟨S256x256x1x1, .f32⟩
  | 80 => ⟨S256x256, .f32⟩
  | 81 => ⟨S256x2x32x32, .f32⟩
  | 82 => ⟨S2x256x32x32, .f32⟩
  | 83 => ⟨S2x256x32x32, .f32⟩
  | 84 => ⟨S2x256x32x32, .f32⟩
  | 85 => ⟨S256x256x1x1, .f32⟩
  | 86 => ⟨S256x256, .f32⟩
  | 87 => ⟨S256x2x32x32, .f32⟩
  | 88 => ⟨S2x256x32x32, .f32⟩
  | 89 => ⟨S2x256x32x32, .f32⟩
  | 90 => ⟨S2x256x32x32, .f32⟩
  | 91 => ⟨S256x256x1x1, .f32⟩
  | 92 => ⟨S256x256, .f32⟩
  | 93 => ⟨S256x2x32x32, .f32⟩
  | 94 => ⟨S2x256x32x32, .f32⟩
  | 95 => ⟨S2x256x32x32, .f32⟩
  | 96 => ⟨S2x256x32x32, .f32⟩
  | 97 => ⟨S256x256x1x1, .f32⟩
  | 98 => ⟨S256x256, .f32⟩
  | 99 => ⟨S256x2x32x32, .f32⟩
  | 100 => ⟨S2x256x32x32, .f32⟩
  | 101 => ⟨S2x256x32x32, .f32⟩
  | 102 => ⟨S2x256x32x32, .f32⟩
  | 103 => ⟨S256x256x1x1, .f32⟩
  | 104 => ⟨S256x256, .f32⟩
  | 105 => ⟨S256x2x32x32, .f32⟩
  | 106 => ⟨S2x256x32x32, .f32⟩
  | 107 => ⟨S2x256x32x32, .f32⟩
  | 108 => ⟨S1x256x1x1, .f32⟩
  | 109 => ⟨S2x256x32x32, .f32⟩
  | 110 => ⟨S2x256x32x32, .f32⟩
  | 111 => ⟨S_, .f32⟩
  | 112 => ⟨S2x256x32x32, .f32⟩
  | 113 => ⟨S2x256x32x32, .f32⟩
  | 114 => ⟨S3x256, .f32⟩
  | 115 => ⟨S3x2x32x32, .f32⟩
  | 116 => ⟨S2x3x32x32, .f32⟩
  | 117 => ⟨S1x3x1x1, .f32⟩
  | 118 => ⟨S2x3x32x32, .f32⟩
  | 119 => ⟨S2x3x32x32, .f32⟩
  | 120 => ⟨S12x256, .f32⟩
  | 121 => ⟨S12x2x32x32, .f32⟩
  | 122 => ⟨S2x12x32x32, .f32⟩
  | 123 => ⟨S1x12x1x1, .f32⟩
  | 124 => ⟨S2x12x32x32, .f32⟩
  | 125 => ⟨S2x12x32x32, .f32⟩
  | 126 => ⟨S2x32x32x3, .f32⟩
  | 127 => ⟨S2x3072, .f32⟩
  | _ => ⟨S2x256x128x128, .f32⟩

abbrev hbmTy0_2 (i : Nat) : BufTy := match i % 128 with
  | 0 => ⟨S2x3x4x32x32, .f32⟩
  | 1 => ⟨S2x32x32x3x4, .f32⟩
  | 2 => ⟨S2x3072x4, .f32⟩
  | 3 => ⟨S_, .i32⟩
  | 4 => ⟨S_, .f32⟩
  | 5 => ⟨S2x256x18x18, .f32⟩
  | 6 => ⟨S2x256x16x16, .f32⟩
  | 7 => ⟨S256x256x1x1, .f32⟩
  | 8 => ⟨S256x256, .f32⟩
  | 9 => ⟨S256x2x16x16, .f32⟩
  | 10 => ⟨S2x256x16x16, .f32⟩
  | 11 => ⟨S_, .f32⟩
  | 12 => ⟨S2x256x16x16, .f32⟩
  | 13 => ⟨S2x256x16x16, .f32⟩
  | 14 => ⟨S2x256x16x16, .f32⟩
  | 15 => ⟨S256x256x1x1, .f32⟩
  | 16 => ⟨S256x256, .f32⟩
  | 17 => ⟨S256x2x16x16, .f32⟩
  | 18 => ⟨S2x256x16x16, .f32⟩
  | 19 => ⟨S2x256x16x16, .f32⟩
  | 20 => ⟨S2x256x16x16, .f32⟩
  | 21 => ⟨S256x256x1x1, .f32⟩
  | 22 => ⟨S256x256, .f32⟩
  | 23 => ⟨S256x2x16x16, .f32⟩
  | 24 => ⟨S2x256x16x16, .f32⟩
  | 25 => ⟨S2x256x16x16, .f32⟩
  | 26 => ⟨S2x256x16x16, .f32⟩
  | 27 => ⟨S256x256x1x1, .f32⟩
  | 28 => ⟨S256x256, .f32⟩
  | 29 => ⟨S256x2x16x16, .f32⟩
  | 30 => ⟨S2x256x16x16, .f32⟩
  | 31 => ⟨S2x256x16x16, .f32⟩
  | 32 => ⟨S2x256x16x16, .f32⟩
  | 33 => ⟨S256x256x1x1, .f32⟩
  | 34 => ⟨S256x256, .f32⟩
  | 35 => ⟨S256x2x16x16, .f32⟩
  | 36 => ⟨S2x256x16x16, .f32⟩
  | 37 => ⟨S2x256x16x16, .f32⟩
  | 38 => ⟨S2x256x16x16, .f32⟩
  | 39 => ⟨S256x256x1x1, .f32⟩
  | 40 => ⟨S256x256, .f32⟩
  | 41 => ⟨S256x2x16x16, .f32⟩
  | 42 => ⟨S2x256x16x16, .f32⟩
  | 43 => ⟨S2x256x16x16, .f32⟩
  | 44 => ⟨S2x256x16x16, .f32⟩
  | 45 => ⟨S256x256x1x1, .f32⟩
  | 46 => ⟨S256x256, .f32⟩
  | 47 => ⟨S256x2x16x16, .f32⟩
  | 48 => ⟨S2x256x16x16, .f32⟩
  | 49 => ⟨S2x256x16x16, .f32⟩
  | 50 => ⟨S2x256x16x16, .f32⟩
  | 51 => ⟨S256x256x1x1, .f32⟩
  | 52 => ⟨S256x256, .f32⟩
  | 53 => ⟨S256x2x16x16, .f32⟩
  | 54 => ⟨S2x256x16x16, .f32⟩
  | 55 => ⟨S2x256x16x16, .f32⟩
  | 56 => ⟨S2x256x16x16, .f32⟩
  | 57 => ⟨S256x256x1x1, .f32⟩
  | 58 => ⟨S256x256, .f32⟩
  | 59 => ⟨S256x2x16x16, .f32⟩
  | 60 => ⟨S2x256x16x16, .f32⟩
  | 61 => ⟨S2x256x16x16, .f32⟩
  | 62 => ⟨S1x256x1x1, .f32⟩
  | 63 => ⟨S2x256x16x16, .f32⟩
  | 64 => ⟨S2x256x16x16, .f32⟩
  | 65 => ⟨S_, .f32⟩
  | 66 => ⟨S2x256x16x16, .f32⟩
  | 67 => ⟨S2x256x16x16, .f32⟩
  | 68 => ⟨S3x256, .f32⟩
  | 69 => ⟨S3x2x16x16, .f32⟩
  | 70 => ⟨S2x3x16x16, .f32⟩
  | 71 => ⟨S1x3x1x1, .f32⟩
  | 72 => ⟨S2x3x16x16, .f32⟩
  | 73 => ⟨S2x3x16x16, .f32⟩
  | 74 => ⟨S12x256, .f32⟩
  | 75 => ⟨S12x2x16x16, .f32⟩
  | 76 => ⟨S2x12x16x16, .f32⟩
  | 77 => ⟨S1x12x1x1, .f32⟩
  | 78 => ⟨S2x12x16x16, .f32⟩
  | 79 => ⟨S2x12x16x16, .f32⟩
  | 80 => ⟨S2x16x16x3, .f32⟩
  | 81 => ⟨S2x768, .f32⟩
  | 82 => ⟨S2x3x4x16x16, .f32⟩
  | 83 => ⟨S2x16x16x3x4, .f32⟩
  | 84 => ⟨S2x768x4, .f32⟩
  | 85 => ⟨S_, .i32⟩
  | 86 => ⟨S_, .f32⟩
  | 87 => ⟨S2x256x10x10, .f32⟩
  | 88 => ⟨S2x256x8x8, .f32⟩
  | 89 => ⟨S256x256x1x1, .f32⟩
  | 90 => ⟨S256x256, .f32⟩
  | 91 => ⟨S256x2x8x8, .f32⟩
  | 92 => ⟨S2x256x8x8, .f32⟩
  | 93 => ⟨S_, .f32⟩
  | 94 => ⟨S2x256x8x8, .f32⟩
  | 95 => ⟨S2x256x8x8, .f32⟩
  | 96 => ⟨S2x256x8x8, .f32⟩
  | 97 => ⟨S256x256x1x1, .f32⟩
  | 98 => ⟨S256x256, .f32⟩
  | 99 => ⟨S256x2x8x8, .f32⟩
  | 100 => ⟨S2x256x8x8, .f32⟩
  | 101 => ⟨S2x256x8x8, .f32⟩
  | 102 => ⟨S2x256x8x8, .f32⟩
  | 103 => ⟨S256x256x1x1, .f32⟩
  | 104 => ⟨S256x256, .f32⟩
  | 105 => ⟨S256x2x8x8, .f32⟩
  | 106 => ⟨S2x256x8x8, .f32⟩
  | 107 => ⟨S2x256x8x8, .f32⟩
  | 108 => ⟨S2x256x8x8, .f32⟩
  | 109 => ⟨S256x256x1x1, .f32⟩
  | 110 => ⟨S256x256, .f32⟩
  | 111 => ⟨S256x2x8x8, .f32⟩
  | 112 => ⟨S2x256x8x8, .f32⟩
  | 113 => ⟨S2x256x8x8, .f32⟩
  | 114 => ⟨S2x256x8x8, .f32⟩
  | 115 => ⟨S256x256x1x1, .f32⟩
  | 116 => ⟨S256x256, .f32⟩
  | 117 => ⟨S256x2x8x8, .f32⟩
  | 118 => ⟨S2x256x8x8, .f32⟩
  | 119 => ⟨S2x256x8x8, .f32⟩
  | 120 => ⟨S2x256x8x8, .f32⟩
  | 121 => ⟨S256x256x1x1, .f32⟩
  | 122 => ⟨S256x256, .f32⟩
  | 123 => ⟨S256x2x8x8, .f32⟩
  | 124 => ⟨S2x256x8x8, .f32⟩
  | 125 => ⟨S2x256x8x8, .f32⟩
  | 126 => ⟨S2x256x8x8, .f32⟩
  | 127 => ⟨S256x256x1x1, .f32⟩
  | _ => ⟨S2x256x128x128, .f32⟩

abbrev hbmTy0_3 (i : Nat) : BufTy := match i % 128 with
  | 0 => ⟨S256x256, .f32⟩
  | 1 => ⟨S256x2x8x8, .f32⟩
  | 2 => ⟨S2x256x8x8, .f32⟩
  | 3 => ⟨S2x256x8x8, .f32⟩
  | 4 => ⟨S2x256x8x8, .f32⟩
  | 5 => ⟨S256x256x1x1, .f32⟩
  | 6 => ⟨S256x256, .f32⟩
  | 7 => ⟨S256x2x8x8, .f32⟩
  | 8 => ⟨S2x256x8x8, .f32⟩
  | 9 => ⟨S2x256x8x8, .f32⟩
  | 10 => ⟨S2x256x8x8, .f32⟩
  | 11 => ⟨S256x256x1x1, .f32⟩
  | 12 => ⟨S256x256, .f32⟩
  | 13 => ⟨S256x2x8x8, .f32⟩
  | 14 => ⟨S2x256x8x8, .f32⟩
  | 15 => ⟨S2x256x8x8, .f32⟩
  | 16 => ⟨S1x256x1x1, .f32⟩
  | 17 => ⟨S2x256x8x8, .f32⟩
  | 18 => ⟨S2x256x8x8, .f32⟩
  | 19 => ⟨S_, .f32⟩
  | 20 => ⟨S2x256x8x8, .f32⟩
  | 21 => ⟨S2x256x8x8, .f32⟩
  | 22 => ⟨S3x256, .f32⟩
  | 23 => ⟨S3x2x8x8, .f32⟩
  | 24 => ⟨S2x3x8x8, .f32⟩
  | 25 => ⟨S1x3x1x1, .f32⟩
  | 26 => ⟨S2x3x8x8, .f32⟩
  | 27 => ⟨S2x3x8x8, .f32⟩
  | 28 => ⟨S12x256, .f32⟩
  | 29 => ⟨S12x2x8x8, .f32⟩
  | 30 => ⟨S2x12x8x8, .f32⟩
  | 31 => ⟨S1x12x1x1, .f32⟩
  | 32 => ⟨S2x12x8x8, .f32⟩
  | 33 => ⟨S2x12x8x8, .f32⟩
  | 34 => ⟨S2x8x8x3, .f32⟩
  | 35 => ⟨S2x192, .f32⟩
  | 36 => ⟨S2x3x4x8x8, .f32⟩
  | 37 => ⟨S2x8x8x3x4, .f32⟩
  | 38 => ⟨S2x192x4, .f32⟩
  | 39 => ⟨S2x65472, .f32⟩
  | 40 => ⟨S2x65472x4, .f32⟩
  | _ => ⟨S2x256x128x128, .f32⟩

abbrev hbmTy (i : Nat) : BufTy := match i / 128 with
  | 0 => hbmTy0_0 i
  | 1 => hbmTy0_1 i
  | 2 => hbmTy0_2 i
  | 3 => hbmTy0_3 i
  | _ => ⟨S2x256x128x128, .f32⟩

abbrev bufTy : (tb : Table) → Fin (tcTables nBuf tb) → BufTy
  | .hbm, ⟨i, _⟩ => hbmTy i
  | _, _ => ⟨S2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_0 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_c_1 : Ref sig .tc := ⟨.hbm, 95, rfl⟩
abbrev main_call1_v0 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_2 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_cst_3 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_c_4 : Ref sig .tc := ⟨.hbm, 177, rfl⟩
abbrev main_call2_v0 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_cst_5 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_cst_6 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_c_7 : Ref sig .tc := ⟨.hbm, 259, rfl⟩
abbrev main_call3_v0 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_cst_8 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_cst_9 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_c_10 : Ref sig .tc := ⟨.hbm, 341, rfl⟩
abbrev main_call4_v0 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_cst_11 : Ref sig .tc := ⟨.hbm, 349, rfl⟩
abbrev main_v318 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_v331 : Ref sig .tc := ⟨.hbm, 363, rfl⟩
abbrev main_v332 : Ref sig .tc := ⟨.hbm, 364, rfl⟩
abbrev main_v333 : Ref sig .tc := ⟨.hbm, 365, rfl⟩
abbrev main_v334 : Ref sig .tc := ⟨.hbm, 366, rfl⟩
abbrev main_v335 : Ref sig .tc := ⟨.hbm, 367, rfl⟩
abbrev main_v336 : Ref sig .tc := ⟨.hbm, 368, rfl⟩
abbrev main_v337 : Ref sig .tc := ⟨.hbm, 369, rfl⟩
abbrev main_v338 : Ref sig .tc := ⟨.hbm, 370, rfl⟩
abbrev main_v339 : Ref sig .tc := ⟨.hbm, 371, rfl⟩
abbrev main_v340 : Ref sig .tc := ⟨.hbm, 372, rfl⟩
abbrev main_v341 : Ref sig .tc := ⟨.hbm, 373, rfl⟩
abbrev main_v342 : Ref sig .tc := ⟨.hbm, 374, rfl⟩
abbrev main_v343 : Ref sig .tc := ⟨.hbm, 375, rfl⟩
abbrev main_v344 : Ref sig .tc := ⟨.hbm, 376, rfl⟩
abbrev main_v345 : Ref sig .tc := ⟨.hbm, 377, rfl⟩
abbrev main_v346 : Ref sig .tc := ⟨.hbm, 378, rfl⟩
abbrev main_v347 : Ref sig .tc := ⟨.hbm, 379, rfl⟩
abbrev main_v348 : Ref sig .tc := ⟨.hbm, 380, rfl⟩
abbrev main_v349 : Ref sig .tc := ⟨.hbm, 381, rfl⟩
abbrev main_v350 : Ref sig .tc := ⟨.hbm, 382, rfl⟩
abbrev main_v351 : Ref sig .tc := ⟨.hbm, 383, rfl⟩
abbrev main_v352 : Ref sig .tc := ⟨.hbm, 384, rfl⟩
abbrev main_v353 : Ref sig .tc := ⟨.hbm, 385, rfl⟩
abbrev main_v354 : Ref sig .tc := ⟨.hbm, 386, rfl⟩
abbrev main_v355 : Ref sig .tc := ⟨.hbm, 387, rfl⟩
abbrev main_v356 : Ref sig .tc := ⟨.hbm, 388, rfl⟩
abbrev main_v357 : Ref sig .tc := ⟨.hbm, 389, rfl⟩
abbrev main_v358 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_v363 : Ref sig .tc := ⟨.hbm, 395, rfl⟩
abbrev main_v364 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_v368 : Ref sig .tc := ⟨.hbm, 400, rfl⟩
abbrev main_v369 : Ref sig .tc := ⟨.hbm, 401, rfl⟩
abbrev main_v370 : Ref sig .tc := ⟨.hbm, 402, rfl⟩
abbrev main_cst_12 : Ref sig .tc := ⟨.hbm, 403, rfl⟩
abbrev main_v371 : Ref sig .tc := ⟨.hbm, 404, rfl⟩
abbrev main_v372 : Ref sig .tc := ⟨.hbm, 405, rfl⟩
abbrev main_v373 : Ref sig .tc := ⟨.hbm, 406, rfl⟩
abbrev main_v374 : Ref sig .tc := ⟨.hbm, 407, rfl⟩
abbrev main_v375 : Ref sig .tc := ⟨.hbm, 408, rfl⟩
abbrev main_v376 : Ref sig .tc := ⟨.hbm, 409, rfl⟩
abbrev main_v377 : Ref sig .tc := ⟨.hbm, 410, rfl⟩
abbrev main_v378 : Ref sig .tc := ⟨.hbm, 411, rfl⟩
abbrev main_v379 : Ref sig .tc := ⟨.hbm, 412, rfl⟩
abbrev main_v380 : Ref sig .tc := ⟨.hbm, 413, rfl⟩
abbrev main_v381 : Ref sig .tc := ⟨.hbm, 414, rfl⟩
abbrev main_v382 : Ref sig .tc := ⟨.hbm, 415, rfl⟩
abbrev main_v383 : Ref sig .tc := ⟨.hbm, 416, rfl⟩
abbrev main_v384 : Ref sig .tc := ⟨.hbm, 417, rfl⟩
abbrev main_v385 : Ref sig .tc := ⟨.hbm, 418, rfl⟩
abbrev main_v386 : Ref sig .tc := ⟨.hbm, 419, rfl⟩
abbrev main_v387 : Ref sig .tc := ⟨.hbm, 420, rfl⟩
abbrev main_v388 : Ref sig .tc := ⟨.hbm, 421, rfl⟩
abbrev main_v389 : Ref sig .tc := ⟨.hbm, 422, rfl⟩
abbrev main_v390 : Ref sig .tc := ⟨.hbm, 423, rfl⟩
abbrev main_v391 : Ref sig .tc := ⟨.hbm, 424, rfl⟩

abbrev nD : Nat := 1
abbrev τ : Topo := Topo.v7x

variable {F : FTy → Type} [FloatOps F]
-- ==== Proof.Spec.lean ====
module

public import Mathlib.Data.EReal.Operations
public import Mathlib.Algebra.BigOperators.Fin

/-! The mathematics both programs compute, over functions of natural numbers: a 3 by 3 convolution with a border of
    zeros, a bias, a rectifier, then fifteen 1 by 1 convolutions with a bias. -/

@[expose] public section

noncomputable section

open scoped BigOperators

namespace Rpn

/-- The height (and width) of each of the five maps. -/
def lvH : Fin 5 → ℕ := ![128, 64, 32, 16, 8]
/-- The row pitch at which the kernel lays each map out. -/
def lvW : Fin 5 → ℕ := ![144, 80, 48, 32, 32]
/-- Where each map starts in the kernel's output rows. -/
def lvO : Fin 5 → ℕ := ![0, 18432, 23552, 25088, 25600]
/-- Where each map starts in the results. -/
def lvP : Fin 5 → ℕ := ![0, 16384, 20480, 21504, 21760]

/-- A map `x c p` of `H` rows of `W` pixels, pixel `p` counted row by row, with a border of zeros one pixel wide: row
    and column 1 are the map's first. -/
def pad (H W : ℕ) (x : ℕ → ℕ → EReal) (c y w : ℕ) : EReal :=
  if 1 ≤ y ∧ y ≤ H ∧ 1 ≤ w ∧ w ≤ W then x c ((y - 1) * W + (w - 1)) else 0

/-- The part of the convolution that the kernel's column `kx` adds at output channel `o`, row `y`, column `w`. -/
def tap (X : ℕ → ℕ → ℕ → EReal) (K : ℕ → ℕ → ℕ → ℕ → EReal) (o y w kx : ℕ) : EReal :=
  ∑ ky : Fin 3, ∑ c : Fin 256, X c (y + ky) (w + kx) * K o c ky kx

/-- The 3 by 3 convolution with its bias, the negative part cut off. -/
def inter (X : ℕ → ℕ → ℕ → EReal) (K : ℕ → ℕ → ℕ → ℕ → EReal) (b : ℕ → EReal) (o y w : ℕ) : EReal :=
  max (tap X K o y w 0 + tap X K o y w 1 + tap X K o y w 2 + b o) 0

/-- The 1 by 1 convolution `j` of it, with its bias. -/
def head (X : ℕ → ℕ → ℕ → EReal) (K : ℕ → ℕ → ℕ → ℕ → EReal) (b : ℕ → EReal) (wh : ℕ → ℕ → EReal) (bh : ℕ → EReal)
    (j y w : ℕ) : EReal :=
  (∑ o : Fin 256, wh o j * inter X K b o y w) + bh j

/-- A sum over `m * n` positions is the sum over the `m` groups of the sums over each group's `n`. -/
theorem sum_groups {α : Type*} [AddCommMonoid α] (m n : ℕ) (f : Fin (m * n) → α) :
    ∑ k, f k = ∑ i : Fin m, ∑ j : Fin n, f ⟨i.val * n + j.val, by
      have h1 := i.isLt; have h2 := j.isLt
      calc i.val * n + j.val < i.val * n + n := by omega
        _ = (i.val + 1) * n := by ring
        _ ≤ m * n := Nat.mul_le_mul_right _ h1⟩ := by
  rw [← Equiv.sum_comp (finProdFinEquiv (m := m) (n := n)) f, Fintype.sum_prod_type]
  refine Finset.sum_congr rfl fun i _ => Finset.sum_congr rfl fun j _ => congrArg f (Fin.ext ?_)
  simp [finProdFinEquiv, Nat.mul_comm, Nat.add_comm]

end Rpn

end
-- ==== Proof.Maps.lean ====
module

public import proofs.«01_k».proof.Proof.Spec
public import Idealize.ShloMosaic.Lib.Pipeline.ValueKit
public import Idealize.ShloMosaic.Lib.Pipeline.Value
public import Idealize.ShloMosaic.Lib.ValueIdx

/-! What a scratch holds after one image's map was stored into it: zeros first, then rows of the map in order, each
    chunk a transposed slice of the input. -/

@[expose] public section

set_option maxRecDepth 16384

noncomputable section

open Idealize.ShloMosaic hiding ix2 ix3
open Idealize.ShloMosaic.ValueIdx

namespace Rpn

/-- Channel `c`, position `p` of image `n` of an input laid out flat; zero outside. -/
def flat {N : ℕ} (X : FVec Ideal ⟨3, ![2, 256, N]⟩ .bf16) (n c p : ℕ) : EReal :=
  if h : n < 2 ∧ c < 256 ∧ p < N then X (ix3 ⟨n, h.1⟩ ⟨c, h.2.1⟩ ⟨p, h.2.2⟩) else 0

/-- The shape conditions of one chunk of `tr` rows of `W` pixels. -/
structure ChunkFacts (tr W N : ℕ) : Prop where
  c0 : Shape.ShapeCasts ⟨3, ![1, 256, N]⟩ ⟨2, ![256, N]⟩
  tp : Shape.Transposes ⟨2, ![256, N]⟩ [1, 0] ⟨2, ![N, 256]⟩
  c1 : Shape.ShapeCasts ⟨2, ![N, 256]⟩ ⟨3, ![tr, W, 256]⟩
  c2 : Shape.ShapeCasts ⟨3, ![tr, W, 256]⟩ ⟨3, ![tr, W, 256]⟩
  mul : tr * W = N

/-- One chunk as it is stored: the loaded channels by pixels transposed to pixels by channels. -/
def chunk {tr W N : ℕ} (f : ChunkFacts tr W N) (u : FVec Ideal ⟨3, ![1, 256, N]⟩ .bf16) : FVec Ideal ⟨3, ![tr, W, 256]⟩ .bf16 :=
  shapeCast ⟨3, ![tr, W, 256]⟩ (shapeCast ⟨3, ![tr, W, 256]⟩ (transpose ⟨2, ![N, 256]⟩ [1, 0] (shapeCast ⟨2, ![256, N]⟩ u f.c0) f.tp)
    f.c1) f.c2

/-- A chunk's row `r`, column `w`, channel `c` is the loaded channel `c` at pixel `r * W + w`. -/
theorem chunk_apply {tr W N : ℕ} (f : ChunkFacts tr W N) (u : FVec Ideal ⟨3, ![1, 256, N]⟩ .bf16) (r : Fin tr) (w : Fin W)
    (c : Fin 256) (q : Fin N) (hq : q.val = r.val * W + w.val) : chunk f u (ix3 r w c) = u (ix3 0 c q) := by
  unfold chunk
  rw [shapeCast_apply _ _ (ix3 r w c) (ix3 r w c) rfl, shapeCast_apply _ _ (ix3 r w c) (ix2 q c) (by
    rw [Shape.rowMajor_val_two, Shape.rowMajor_val_three]
    show q.val * 256 + c.val = (r.val * W + w.val) * 256 + c.val
    rw [hq])]
  refine (transpose_apply _ _ _ (ix2 q c) (ix2 c q) ?_).trans ?_
  · intro b; match b with | ⟨0, _⟩ => rfl | ⟨1, _⟩ => rfl
  · refine shapeCast_apply _ _ _ _ ?_
    rw [Shape.rowMajor_val_two, Shape.rowMajor_val_three]
    show (0 * 256 + c.val) * N + q.val = c.val * N + q.val
    rw [Nat.zero_mul, Nat.zero_add]

/-- The scratch written by `L` agrees with the bordered map `x` of `H` rows of `H` pixels, except in the map's rows from
    `b` on. -/
def Good {R Wp : ℕ} (H : ℕ) (x : ℕ → ℕ → EReal) (L : List (View.Piece (Elt Ideal) ⟨3, ![R, Wp, 256]⟩ .bf16)) (b : ℕ) : Prop :=
  ∀ (r : Fin R) (w : Fin Wp) (c : Fin 256), (r.val < b ∨ H < r.val ∨ H ≤ w.val) →
    View.canon L (ix3 r w c) = pad H H x c r (w + 1)

variable {R Wp H : ℕ} {x : ℕ → ℕ → EReal} {L : List (View.Piece (Elt Ideal) ⟨3, ![R, Wp, 256]⟩ .bf16)}

/-- Zeros over the whole scratch: all but the map's rows are right. -/
theorem good_zero (Z : FVec Ideal ⟨3, ![R, Wp, 256]⟩ .bf16) (hZ : ∀ y, Z y = 0) (inb) :
    Good H x (⟨Rect.unit ![0, 0, 0] (⟨3, ![R, Wp, 256]⟩ : Shape).size inb, Z⟩ :: L) 1 := by
  intro r w c h
  rw [View.canon_cons_unit_zero (by funext a; match a with | ⟨0, _⟩ => rfl | ⟨1, _⟩ => rfl | ⟨2, _⟩ => rfl)]
  rw [hZ, pad, if_neg (by omega)]

/-- A splat of the zero word, reshaped to its own shape, is zero everywhere. -/
theorem zeros_apply (s : Shape) (h : s.ShapeCasts s) (y : s.Idx) :
    shapeCast s (broadcast (α := Ideal .bf16) s (Scalar.ofBits (F := Ideal) .bf16 0x0000#16)) h y = 0 := by
  rw [shapeCast_apply _ h y y rfl]
  exact Ideal.ofBits_zero_bf16

/-- A chunk loaded from channels by pixels, `off` pixels into image `n`, at a row and column. -/
theorem chunk_load {sig : RefSig} {κ : Kind} {sp : Space} {tr N n off M : ℕ} (f : ChunkFacts tr H N)
    (arg : Memref sig κ sp ⟨3, ![2, 256, M]⟩ .bf16) (harg : arg.IsWhole) (X : FVec Ideal ⟨3, ![2, 256, M]⟩ .bf16) (inb)
    (r : Fin tr) (w : Fin H) (c : Fin 256) :
    chunk f (View.readAt (Elt Ideal) arg.view (Rect.unit (s := ⟨3, ![2, 256, M]⟩) ![n, 0, off] ![1, 256, N] inb).toLoadRect
      (harg.unread X)) (ix3 r w c) = flat X n c (off + (r.val * H + w.val)) := by
  have hn : n + 1 ≤ 2 := inb 0
  have hM : off + N ≤ M := inb 2
  have h1 := f.mul
  have h2 : (r.val + 1) * H ≤ tr * H := Nat.mul_le_mul_right _ r.isLt
  have h3 : (r.val + 1) * H = r.val * H + H := Nat.succ_mul _ _
  have h4 := w.isLt
  rw [chunk_apply f _ r w c ⟨r.val * H + w.val, by omega⟩ rfl, View.readAt_eq_ld, harg.read_unread, View.ld_unit]
  unfold flat
  rw [dif_pos ⟨by omega, c.isLt, by omega⟩]
  refine extractStridedSlice_apply _ _ _ _ _ ?_
  intro a; match a with | ⟨0, _⟩ => rfl | ⟨1, _⟩ => exact (Nat.zero_add _).symm | ⟨2, _⟩ => rfl

/-- One more chunk of `tr` rows, at the scratch's row `b`. -/
theorem good_step {tr b : ℕ} (D : FVec Ideal ⟨3, ![tr, H, 256]⟩ .bf16) (inb) (hb : 1 ≤ b) (hbt : b + tr ≤ H + 1)
    (hD : ∀ (r : Fin tr) (w : Fin H) (c : Fin 256), D (ix3 r w c) = x c ((b - 1) * H + (r.val * H + w.val)))
    (hL : Good H x L b) : Good H x (⟨Rect.unit (s := ⟨3, ![R, Wp, 256]⟩) ![b, 0, 0] ![tr, H, 256] inb, D⟩ :: L) (b + tr) := by
  intro r w c h
  by_cases hin : b ≤ r.val ∧ r.val < b + tr ∧ w.val < H
  · obtain ⟨h1, h2, h3⟩ := hin
    have e : ix3 r w c = (Rect.unit (s := ⟨3, ![R, Wp, 256]⟩) ![b, 0, 0] ![tr, H, 256] inb).emb
        (ix3 (n0 := tr) (n1 := H) (n2 := 256) ⟨r.val - b, by omega⟩ ⟨w.val, h3⟩ c) := by
      funext a; apply Fin.ext
      match a with
      | ⟨0, _⟩ => show r.val = b + 1 * (r.val - b); omega
      | ⟨1, _⟩ => show w.val = 0 + 1 * w.val; omega
      | ⟨2, _⟩ => show c.val = 0 + 1 * c.val; omega
    rw [e, View.canon_cons_emb, hD, pad, if_pos (by omega)]
    refine congrArg (x c) ?_
    show (b - 1) * H + ((r.val - b) * H + w.val) = (r.val - 1) * H + (w.val + 1 - 1)
    rw [← Nat.add_assoc, ← Nat.add_mul]
    congr 1
    congr 1
    omega
  · rw [View.canon_cons_of_not_mem]
    · exact hL r w c (by omega)
    · intro hm
      rw [Rect.mem_set_unit] at hm
      have h0 : b ≤ r.val ∧ r.val < b + tr := hm 0
      have h1 : 0 ≤ w.val ∧ w.val < 0 + H := hm 1
      exact hin ⟨h0.1, h0.2, by omega⟩

/-- A chunk stored as it was loaded. -/
theorem good_chunk {sig : RefSig} {κ : Kind} {sp : Space} {tr N n off b M : ℕ} (f : ChunkFacts tr H N)
    (arg : Memref sig κ sp ⟨3, ![2, 256, M]⟩ .bf16) (harg : arg.IsWhole) (X : FVec Ideal ⟨3, ![2, 256, M]⟩ .bf16) (inb inb')
    (hb : 1 ≤ b) (hbt : b + tr ≤ H + 1) (hoff : off = (b - 1) * H) (hL : Good H (flat X n) L b) :
    Good H (flat X n) (⟨Rect.unit (s := ⟨3, ![R, Wp, 256]⟩) ![b, 0, 0] ![tr, H, 256] inb,
      chunk f (View.readAt (Elt Ideal) arg.view (Rect.unit (s := ⟨3, ![2, 256, M]⟩) ![n, 0, off] ![1, 256, N] inb').toLoadRect
        (harg.unread X))⟩ :: L) (b + tr) := by
  subst hoff
  exact good_step _ inb hb hbt (fun r w c => chunk_load f arg harg X inb' r w c) hL

/-- Once all rows are stored, a load of rows `a` to `a + tr` reads the bordered map. -/
theorem good_load {sig : RefSig} {κ : Kind} {sp : Space} {tr a : ℕ} (v : View sig κ sp ⟨3, ![R, Wp, 256]⟩ .bf16)
    (hL : Good H x L (H + 1)) (inb) (r : Fin tr) (w : Fin Wp) (c : Fin 256) :
    v.readCov L (Rect.unit (s := ⟨3, ![R, Wp, 256]⟩) ![a, 0, 0] ![tr, Wp, 256] inb).toLoadRect (ix3 r w c)
      = pad H H x c (a + r) (w + 1) := by
  have ha : a + tr ≤ R := inb 0
  have hr := r.isLt
  rw [View.readCov_eq_canon']
  show View.canon L ((Rect.unit (s := ⟨3, ![R, Wp, 256]⟩) ![a, 0, 0] ![tr, Wp, 256] inb).emb (ix3 r w c)) = _
  have e : (Rect.unit (s := ⟨3, ![R, Wp, 256]⟩) ![a, 0, 0] ![tr, Wp, 256] inb).emb (ix3 r w c)
      = ix3 ⟨a + r.val, by omega⟩ w c := by
    funext k; apply Fin.ext
    match k with
    | ⟨0, _⟩ => show a + 1 * r.val = a + r.val; omega
    | ⟨1, _⟩ => show 0 + 1 * w.val = w.val; omega
    | ⟨2, _⟩ => show 0 + 1 * c.val = c.val; omega
  rw [e, hL _ _ _ (by simp only; omega)]

end Rpn

end
-- ==== Proof.Stored.lean ====
module

public import proofs.«01_k».proof.Proof.Gen.KernelIdeal.Frame
public import proofs.«01_k».proof.Proof.Maps

/-! The kernel's ten scratch fillings (five maps, two images): each holds its bordered map once all of it is stored. -/

@[expose] public section

set_option maxRecDepth 16384

noncomputable section

namespace Cert.KernelIdeal.Hand

open Cert.KernelIdeal Cert.KernelIdeal.Gen Rpn
open Idealize.ShloMosaic hiding ix2 ix3
open Idealize.ShloMosaic.TcCoe Idealize.ShloMosaic.ValueIdx

/-- Chunks of the first map. -/
theorem cf0 : ChunkFacts 16 128 2048 := ⟨by decide, by decide, by decide, by decide, by decide⟩
/-- Chunks of the second map. -/
theorem cf1 : ChunkFacts 32 64 2048 := ⟨by decide, by decide, by decide, by decide, by decide⟩
/-- The one chunk of the third map. -/
theorem cf2 : ChunkFacts 32 32 1024 := ⟨by decide, by decide, by decide, by decide, by decide⟩
/-- The one chunk of the fourth map. -/
theorem cf3 : ChunkFacts 16 16 256 := ⟨by decide, by decide, by decide, by decide, by decide⟩
/-- The one chunk of the fifth map. -/
theorem cf4 : ChunkFacts 8 8 64 := ⟨by decide, by decide, by decide, by decide, by decide⟩

variable (c : Dev nD)

/-- The first map of image 0. -/
theorem map0_0 (arg : Memref sig .tc .vmem S2x256x16384 .bf16) (h : arg.IsWhole) (X : Vec Ideal S2x256x16384 .bf16) :
    Good 128 (flat X 0) (kernelRun0_A.sl.HS0_9 c arg h X) 129 := by
  iterate 8 refine good_chunk cf0 arg h X _ _ (by decide) (by decide) rfl ?_
  exact good_zero _ (zeros_apply _ _) _

/-- The first map of image 1. -/
theorem map0_1 (arg : Memref sig .tc .vmem S2x256x16384 .bf16) (h : arg.IsWhole) (X : Vec Ideal S2x256x16384 .bf16) :
    Good 128 (flat X 1) (kernelRun0_A.sl.HS0_18 c arg h X) 129 := by
  iterate 8 refine good_chunk cf0 arg h X _ _ (by decide) (by decide) rfl ?_
  exact good_zero _ (zeros_apply _ _) _

/-- The second map of image 0. -/
theorem map1_0 (arg : Memref sig .tc .vmem S2x256x4096 .bf16) (h : arg.IsWhole) (X : Vec Ideal S2x256x4096 .bf16) :
    Good 64 (flat X 0) (kernelRun0_A.sl.HS1_3 c arg h X) 65 := by
  iterate 2 refine good_chunk cf1 arg h X _ _ (by decide) (by decide) rfl ?_
  exact good_zero _ (zeros_apply _ _) _

/-- The second map of image 1. -/
theorem map1_1 (arg : Memref sig .tc .vmem S2x256x4096 .bf16) (h : arg.IsWhole) (X : Vec Ideal S2x256x4096 .bf16) :
    Good 64 (flat X 1) (kernelRun0_A.sl.HS1_6 c arg h X) 65 := by
  iterate 2 refine good_chunk cf1 arg h X _ _ (by decide) (by decide) rfl ?_
  exact good_zero _ (zeros_apply _ _) _

/-- The third map of image 0. -/
theorem map2_0 (arg : Memref sig .tc .vmem S2x256x1024 .bf16) (h : arg.IsWhole) (X : Vec Ideal S2x256x1024 .bf16) :
    Good 32 (flat X 0) (kernelRun0_A.sl.HS2_2 c arg h X) 33 := by
  refine good_chunk cf2 arg h X _ _ (by decide) (by decide) rfl ?_
  exact good_zero (k0_pay21 k0_pay20) (zeros_apply _ shapeCasts_S34x48x256_S34x48x256) _

/-- The third map of image 1. -/
theorem map2_1 (arg : Memref sig .tc .vmem S2x256x1024 .bf16) (h : arg.IsWhole) (X : Vec Ideal S2x256x1024 .bf16) :
    Good 32 (flat X 1) (kernelRun0_A.sl.HS2_4 c arg h X) 33 := by
  refine good_chunk cf2 arg h X _ _ (by decide) (by decide) rfl ?_
  exact good_zero _ (zeros_apply _ _) _

/-- The fourth map of image 0. -/
theorem map3_0 (arg : Memref sig .tc .vmem S2x256x256 .bf16) (h : arg.IsWhole) (X : Vec Ideal S2x256x256 .bf16) :
    Good 16 (flat X 0) (kernelRun0_A.sl.HS3_2 c arg h X) 17 := by
  refine good_chunk cf3 arg h X _ _ (by decide) (by decide) rfl ?_
  exact good_zero _ (zeros_apply _ _) _

/-- The fourth map of image 1. -/
theorem map3_1 (arg : Memref sig .tc .vmem S2x256x256 .bf16) (h : arg.IsWhole) (X : Vec Ideal S2x256x256 .bf16) :
    Good 16 (flat X 1) (kernelRun0_A.sl.HS3_4 c arg h X) 17 := by
  refine good_chunk cf3 arg h X _ _ (by decide) (by decide) rfl ?_
  exact good_zero _ (zeros_apply _ _) _

/-- The fifth map of image 0. -/
theorem map4_0 (arg : Memref sig .tc .vmem S2x256x64 .bf16) (h : arg.IsWhole) (X : Vec Ideal S2x256x64 .bf16) :
    Good 8 (flat X 0) (kernelRun0_A.sl.HS4_2 c arg h X) 9 := by
  refine good_chunk cf4 arg h X _ _ (by decide) (by decide) rfl ?_
  exact good_zero _ (zeros_apply _ _) _

/-- The fifth map of image 1. -/
theorem map4_1 (arg : Memref sig .tc .vmem S2x256x64 .bf16) (h : arg.IsWhole) (X : Vec Ideal S2x256x64 .bf16) :
    Good 8 (flat X 1) (kernelRun0_A.sl.HS4_4 c arg h X) 9 := by
  refine good_chunk cf4 arg h X _ _ (by decide) (by decide) rfl ?_
  exact good_zero _ (zeros_apply _ _) _

end Cert.KernelIdeal.Hand

end
-- ==== Proof.Block.lean ====
module

public import proofs.«01_k».proof.Proof.Spec
public import Idealize.ShloMosaic.Lib.Pipeline.ValueKit
public import Idealize.ShloMosaic.Lib.ValueIdx
public import Idealize.ShloMosaic.Lib.MatmulPlain

/-! What one block of output rows holds: `M = tr * Wp` rows of the padded layout, from the three row-shifted loads of
    the scratch. Stated once for every block size. -/

@[expose] public section

set_option maxRecDepth 16384

noncomputable section

open scoped BigOperators
open Idealize.ShloMosaic hiding ix2 ix3
open Idealize.ShloMosaic.ValueIdx

namespace Rpn

/-- The shape conditions of one block of `M` rows (`M1` is `M - 1`). -/
structure BlockFacts (tr Wp M M1 : ℕ) : Prop where
  cast : Shape.ShapeCasts ⟨3, ![tr, Wp, 256]⟩ ⟨2, ![M, 256]⟩
  cat3 : Shape.Concatenates [⟨2, ![M, 256]⟩, ⟨2, ![M, 256]⟩, ⟨2, ![M, 256]⟩] ⟨2, ![M, 768]⟩ 1
  s0 : Shape.Slices ⟨2, ![M, 768]⟩ ![0, 0] ⟨2, ![M, 256]⟩
  s1 : Shape.Slices ⟨2, ![M, 768]⟩ ![0, 256] ⟨2, ![M, 256]⟩
  s2 : Shape.Slices ⟨2, ![M, 768]⟩ ![0, 512] ⟨2, ![M, 256]⟩
  lastRow : Shape.Slices ⟨2, ![M, 256]⟩ ![M1, 0] ⟨2, ![1, 256]⟩
  butLast : Shape.Slices ⟨2, ![M, 256]⟩ ![0, 0] ⟨2, ![M1, 256]⟩
  butFirst : Shape.Slices ⟨2, ![M, 256]⟩ ![1, 0] ⟨2, ![M1, 256]⟩
  firstRow : Shape.Slices ⟨2, ![M, 256]⟩ ![0, 0] ⟨2, ![1, 256]⟩
  down : Shape.Concatenates [⟨2, ![1, 256]⟩, ⟨2, ![M1, 256]⟩] ⟨2, ![M, 256]⟩ 0
  up : Shape.Concatenates [⟨2, ![M1, 256]⟩, ⟨2, ![1, 256]⟩] ⟨2, ![M, 256]⟩ 0
  bias : Shape.Broadcasts ⟨2, ![1, 256]⟩ ⟨2, ![M, 256]⟩
  hbias : Shape.Broadcasts ⟨2, ![15, 1]⟩ ⟨2, ![15, M]⟩
  out : Shape.ShapeCasts ⟨2, ![15, M]⟩ ⟨3, ![1, 15, M]⟩
  bits : FTy.bits .bf16 < FTy.bits .f32
  dot2 : DotDims.WF ⟨2, ![256, 15]⟩ ⟨2, ![M, 256]⟩ ⟨2, ![15, M]⟩ [0] [1] [1] [0] [] []
  mul : tr * Wp = M
  succ : M1 + 1 = M

variable {tr Wp M M1 : ℕ} (f : BlockFacts tr Wp M M1)

/-- The head's product: both operands contracted on their 256 channels, the result heads by rows. -/
def headDot (h : DotDims.WF ⟨2, ![256, 15]⟩ ⟨2, ![M, 256]⟩ ⟨2, ![15, M]⟩ [0] [1] [1] [0] [] []) :
    DotDims ⟨2, ![256, 15]⟩ ⟨2, ![M, 256]⟩ ⟨2, ![15, M]⟩ where
  lhsContracting := [0]
  rhsContracting := [1]
  lhsNonContracting := [1]
  rhsNonContracting := [0]
  lhsBatch := []
  rhsBatch := []
  wf := h

/-- The three loads side by side, times the kernel matrix. -/
def blkH (K : FVec Ideal ⟨2, ![768, 768]⟩ .bf16) (u0 u1 u2 : FVec Ideal ⟨3, ![tr, Wp, 256]⟩ .bf16) :
    FVec Ideal ⟨2, ![M, 768]⟩ .f32 :=
  matmul (DotDims.plain M 768 768) none
    (concatenate ⟨2, ![M, 768]⟩ 1 [⟨_, shapeCast ⟨2, ![M, 256]⟩ u0 f.cast⟩, ⟨_, shapeCast ⟨2, ![M, 256]⟩ u1 f.cast⟩,
      ⟨_, shapeCast ⟨2, ![M, 256]⟩ u2 f.cast⟩] f.cat3) K (constant ⟨2, ![M, 768]⟩ .f32 0x00000000#32)

/-- The three column parts shifted against each other and added, the bias, the rectifier. -/
def blkI (bi : FVec Ideal ⟨2, ![1, 256]⟩ .f32) (h : FVec Ideal ⟨2, ![M, 768]⟩ .f32) : FVec Ideal ⟨2, ![M, 256]⟩ .bf16 :=
  truncf .bf16 (maximumf (addf (addf (addf
    (concatenate ⟨2, ![M, 256]⟩ 0
      [⟨_, extractStridedSlice ⟨2, ![1, 256]⟩ ![M1, 0] (extractStridedSlice ⟨2, ![M, 256]⟩ ![0, 0] h f.s0) f.lastRow⟩,
       ⟨_, extractStridedSlice ⟨2, ![M1, 256]⟩ ![0, 0] (extractStridedSlice ⟨2, ![M, 256]⟩ ![0, 0] h f.s0) f.butLast⟩] f.down)
    (extractStridedSlice ⟨2, ![M, 256]⟩ ![0, 256] h f.s1))
    (concatenate ⟨2, ![M, 256]⟩ 0
      [⟨_, extractStridedSlice ⟨2, ![M1, 256]⟩ ![1, 0] (extractStridedSlice ⟨2, ![M, 256]⟩ ![0, 512] h f.s2) f.butFirst⟩,
       ⟨_, extractStridedSlice ⟨2, ![1, 256]⟩ ![0, 0] (extractStridedSlice ⟨2, ![M, 256]⟩ ![0, 512] h f.s2) f.firstRow⟩] f.up))
    (broadcastTo ⟨2, ![M, 256]⟩ bi f.bias))
    (broadcast ⟨2, ![M, 256]⟩ (Scalar.ofBits .f32 0x00000000#32))) f.bits

/-- The block's fifteen heads. -/
def blkOut (bi : FVec Ideal ⟨2, ![1, 256]⟩ .f32) (bh : FVec Ideal ⟨2, ![15, 1]⟩ .f32) (K : FVec Ideal ⟨2, ![768, 768]⟩ .bf16)
    (wh : FVec Ideal ⟨2, ![256, 15]⟩ .bf16) (u0 u1 u2 : FVec Ideal ⟨3, ![tr, Wp, 256]⟩ .bf16) :
    FVec Ideal ⟨3, ![1, 15, M]⟩ .f32 :=
  shapeCast ⟨3, ![1, 15, M]⟩ (addf (matmul (headDot f.dot2) none wh (blkI f bi (blkH f K u0 u1 u2))
    (constant ⟨2, ![15, M]⟩ .f32 0x00000000#32)) (broadcastTo ⟨2, ![15, M]⟩ bh f.hbias)) f.out

/-- The word of a zero is zero. -/
theorem zero_f32 : Ideal.ofBits .f32 (0x00000000#32 : BitVec 32) = 0 := by
  simp [Ideal.ofBits, Ideal.ieee]

/-- Row `r * Wp + w` of a load laid out flat is its row `r`, column `w`. -/
theorem flat_apply (u : FVec Ideal ⟨3, ![tr, Wp, 256]⟩ .bf16) (r : Fin tr) (w : Fin Wp) (c : Fin 256) (q : Fin M)
    (hq : q.val = r.val * Wp + w.val) : shapeCast ⟨2, ![M, 256]⟩ u f.cast (ix2 q c) = u (ix3 r w c) := by
  refine shapeCast_apply _ _ _ _ ?_
  rw [Shape.rowMajor_val_two, Shape.rowMajor_val_three]
  show (r.val * Wp + w.val) * 256 + c.val = q.val * 256 + c.val
  rw [hq]

/-- Three arrays side by side read at a column of the `i`-th. -/
theorem side_apply (x0 x1 x2 x : FVec Ideal ⟨2, ![M, 256]⟩ .bf16) (q : Fin M) (k : Fin 768) (i : ℕ) (c : Fin 256)
    (hk : i * 256 + c.val = k.val) (hx : i = 0 ∧ x = x0 ∨ i = 1 ∧ x = x1 ∨ i = 2 ∧ x = x2) :
    concatenate ⟨2, ![M, 768]⟩ 1 [⟨_, x0⟩, ⟨_, x1⟩, ⟨_, x2⟩] f.cat3 (ix2 q k) = x (ix2 q c) := by
  have h : ∀ b : Fin 2, b ≠ 1 → (ix2 q c b).val = (ix2 q k b).val := by
    intro b hb; match b with | ⟨0, _⟩ => rfl | ⟨1, _⟩ => exact absurd rfl hb
  rcases hx with ⟨rfl, rfl⟩ | ⟨rfl, rfl⟩ | ⟨rfl, rfl⟩
  · exact concatenate_apply_piece 1 [⟨_, x⟩, ⟨_, x1⟩, ⟨_, x2⟩] f.cat3 (ix2 q k) 0 (by simp) _ x rfl rfl 0 rfl
          (ix2 q c) h hk
  · exact concatenate_apply_piece 1 [⟨_, x0⟩, ⟨_, x⟩, ⟨_, x2⟩] f.cat3 (ix2 q k) 1 (by simp) _ x rfl rfl 256 rfl
          (ix2 q c) h hk
  · exact concatenate_apply_piece 1 [⟨_, x0⟩, ⟨_, x1⟩, ⟨_, x⟩] f.cat3 (ix2 q k) 2 (by simp) _ x rfl rfl 512 rfl
          (ix2 q c) h hk

/-- The product at row `r * Wp + w`: the sum over the three loads and the channels. -/
theorem blkH_apply (K : FVec Ideal ⟨2, ![768, 768]⟩ .bf16) (u0 u1 u2 : FVec Ideal ⟨3, ![tr, Wp, 256]⟩ .bf16)
    (P : ℕ → ℕ → ℕ → EReal) (Kf : ℕ → ℕ → ℕ → ℕ → EReal) (a : ℕ)
    (h0 : ∀ r w c, u0 (ix3 r w c) = P c (a + r + 0) w) (h1 : ∀ r w c, u1 (ix3 r w c) = P c (a + r + 1) w)
    (h2 : ∀ r w c, u2 (ix3 r w c) = P c (a + r + 2) w)
    (hK : ∀ (k l : Fin 768) (ky c kx o : ℕ), c < 256 → o < 256 → k.val = ky * 256 + c → l.val = kx * 256 + o →
      K (ix2 k l) = Kf o c ky kx)
    (r : Fin tr) (w : Fin Wp) (q : Fin M) (hq : q.val = r.val * Wp + w.val) (kx : ℕ) (o : Fin 256) (l : Fin 768)
    (hl : l.val = kx * 256 + o.val) :
    blkH f K u0 u1 u2 (ix2 q l) = ∑ ky : Fin 3, ∑ c : Fin 256, P c (a + r + ky) w * Kf o c ky kx := by
  unfold blkH
  rw [show matmul (F := Ideal) (DotDims.plain M 768 768) none
    (concatenate ⟨2, ![M, 768]⟩ 1 [⟨_, shapeCast ⟨2, ![M, 256]⟩ u0 f.cast⟩, ⟨_, shapeCast ⟨2, ![M, 256]⟩ u1 f.cast⟩,
      ⟨_, shapeCast ⟨2, ![M, 256]⟩ u2 f.cast⟩] f.cat3) K (constant ⟨2, ![M, 768]⟩ .f32 0x00000000#32) (ix2 q l) = _ from
    Ideal.matmul_plain_apply none _ _ _ q l, ValueIdx.constant_apply, zero_f32, zero_add]
  rw [sum_groups 3 256]
  refine Finset.sum_congr rfl fun ky _ => Finset.sum_congr rfl fun c _ => ?_
  rw [hK _ l ky c kx o c.isLt o.isLt rfl hl]
  refine congrArg (· * _) ?_
  fin_cases ky
  · exact (side_apply f _ _ _ _ q _ 0 c rfl (.inl ⟨rfl, rfl⟩)).trans ((flat_apply f u0 r w c q hq).trans (h0 r w c))
  · exact (side_apply f _ _ _ _ q _ 1 c rfl (.inr (.inl ⟨rfl, rfl⟩))).trans ((flat_apply f u1 r w c q hq).trans (h1 r w c))
  · exact (side_apply f _ _ _ _ q _ 2 c rfl (.inr (.inr ⟨rfl, rfl⟩))).trans ((flat_apply f u2 r w c q hq).trans (h2 r w c))

/-- Rows moved down by one: below the first row stands the row above. -/
theorem down_apply (g : FVec Ideal ⟨2, ![M, 256]⟩ .f32) (q : Fin M) (o : Fin 256) (p : Fin M)
    (hp : q.val = 0 ∧ p.val = M1 ∨ q.val = p.val + 1) :
    concatenate ⟨2, ![M, 256]⟩ 0
      [⟨_, extractStridedSlice ⟨2, ![1, 256]⟩ ![M1, 0] g f.lastRow⟩,
       ⟨_, extractStridedSlice ⟨2, ![M1, 256]⟩ ![0, 0] g f.butLast⟩] f.down (ix2 q o) = g (ix2 p o) := by
  have hs := f.succ
  have hq := q.isLt
  rcases hp with ⟨h0, h1⟩ | h
  · refine (concatenate_pair_apply_left (s₁ := ⟨2, ![1, 256]⟩) (s₂ := ⟨2, ![M1, 256]⟩) 0 _ _ _ (ix2 q o) rfl (ix2 (n0 := 1) 0 o) ?_).trans ?_
    · intro b; match b with | ⟨0, _⟩ => exact h0.symm | ⟨1, _⟩ => rfl
    · refine extractStridedSlice_apply _ _ _ _ _ ?_
      intro b; match b with | ⟨0, _⟩ => exact h1 | ⟨1, _⟩ => exact (Nat.zero_add _).symm
  · refine (concatenate_pair_apply_right (s₁ := ⟨2, ![1, 256]⟩) (s₂ := ⟨2, ![M1, 256]⟩) 0 _ _ _ (ix2 q o) rfl rfl (ix2 (n0 := M1) ⟨p.val, by omega⟩ o) ?_ ?_).trans ?_
    · intro b hb; match b with | ⟨0, _⟩ => exact absurd rfl hb | ⟨1, _⟩ => rfl
    · exact h.symm
    · refine extractStridedSlice_apply _ _ _ _ _ ?_
      intro b; match b with | ⟨0, _⟩ => exact (Nat.zero_add _).symm | ⟨1, _⟩ => exact (Nat.zero_add _).symm

/-- Rows moved up by one: above the last row stands the row below. -/
theorem up_apply (g : FVec Ideal ⟨2, ![M, 256]⟩ .f32) (q : Fin M) (o : Fin 256) (p : Fin M) (hp : p.val = q.val + 1) :
    concatenate ⟨2, ![M, 256]⟩ 0
      [⟨_, extractStridedSlice ⟨2, ![M1, 256]⟩ ![1, 0] g f.butFirst⟩,
       ⟨_, extractStridedSlice ⟨2, ![1, 256]⟩ ![0, 0] g f.firstRow⟩] f.up (ix2 q o) = g (ix2 p o) := by
  have hs := f.succ
  have hq := p.isLt
  refine (concatenate_pair_apply_left (s₁ := ⟨2, ![M1, 256]⟩) (s₂ := ⟨2, ![1, 256]⟩) 0 _ _ _ (ix2 q o) rfl (ix2 (n0 := M1) ⟨q.val, by omega⟩ o) ?_).trans ?_
  · intro b; match b with | ⟨0, _⟩ => rfl | ⟨1, _⟩ => rfl
  · refine extractStridedSlice_apply _ _ _ _ _ ?_
    intro b; match b with | ⟨0, _⟩ => exact hp.trans (Nat.add_comm _ _) | ⟨1, _⟩ => exact (Nat.zero_add _).symm

/-- A third of the product's columns. -/
theorem third_apply (h : FVec Ideal ⟨2, ![M, 768]⟩ .f32) (off : ℕ) (hs : Shape.Slices ⟨2, ![M, 768]⟩ ![0, off] ⟨2, ![M, 256]⟩)
    (q : Fin M) (o : Fin 256) (l : Fin 768) (hl : l.val = off + o.val) :
    extractStridedSlice ⟨2, ![M, 256]⟩ ![0, off] h hs (ix2 q o) = h (ix2 q l) := by
  refine extractStridedSlice_apply _ _ _ _ _ ?_
  intro b; match b with | ⟨0, _⟩ => exact (Nat.zero_add _).symm | ⟨1, _⟩ => exact hl

/-- The operands of one block: `X` is the bordered map, its column `w + 1` the loads' column `w`. -/
structure BlockArgs (a : ℕ) (X : ℕ → ℕ → ℕ → EReal) (Kf : ℕ → ℕ → ℕ → ℕ → EReal) (b : ℕ → EReal) (whf : ℕ → ℕ → EReal)
    (bhf : ℕ → EReal) (bi : FVec Ideal ⟨2, ![1, 256]⟩ .f32) (bh : FVec Ideal ⟨2, ![15, 1]⟩ .f32)
    (K : FVec Ideal ⟨2, ![768, 768]⟩ .bf16) (wh : FVec Ideal ⟨2, ![256, 15]⟩ .bf16)
    (u0 u1 u2 : FVec Ideal ⟨3, ![tr, Wp, 256]⟩ .bf16) : Prop where
  h0 : ∀ r w c, u0 (ix3 r w c) = X c (a + r + 0) (w + 1)
  h1 : ∀ r w c, u1 (ix3 r w c) = X c (a + r + 1) (w + 1)
  h2 : ∀ r w c, u2 (ix3 r w c) = X c (a + r + 2) (w + 1)
  left : ∀ c y, X c y 0 = 0
  right : ∀ c y, X c y Wp = 0
  hK : ∀ (k l : Fin 768) (ky c kx o : ℕ), c < 256 → o < 256 → k.val = ky * 256 + c → l.val = kx * 256 + o →
    K (ix2 k l) = Kf o c ky kx
  hb : ∀ o : Fin 256, bi (ix2 0 o) = b o
  hw : ∀ (o : Fin 256) (j : Fin 15), wh (ix2 o j) = whf o j
  hbh : ∀ j : Fin 15, bh (ix2 j 0) = bhf j

variable {a : ℕ} {X : ℕ → ℕ → ℕ → EReal} {Kf : ℕ → ℕ → ℕ → ℕ → EReal} {b : ℕ → EReal} {whf : ℕ → ℕ → EReal}
  {bhf : ℕ → EReal} {bi : FVec Ideal ⟨2, ![1, 256]⟩ .f32} {bh : FVec Ideal ⟨2, ![15, 1]⟩ .f32}
  {K : FVec Ideal ⟨2, ![768, 768]⟩ .bf16} {wh : FVec Ideal ⟨2, ![256, 15]⟩ .bf16}
  {u0 u1 u2 : FVec Ideal ⟨3, ![tr, Wp, 256]⟩ .bf16}

/-- The rectified convolution at row `r * Wp + w` of the block. -/
theorem blkI_apply (g : BlockArgs a X Kf b whf bhf bi bh K wh u0 u1 u2) (r : Fin tr) (w : ℕ) (hw : w + 1 < Wp) (q : Fin M)
    (hq : q.val = r.val * Wp + w) (o : Fin 256) :
    blkI f bi (blkH f K u0 u1 u2) (ix2 q o) = inter X Kf b o (a + r) w := by
  have hs := f.succ
  have hm := f.mul
  have ho := o.isLt
  have hr := r.isLt
  have hM : M = (tr - 1) * Wp + Wp := by
    rw [← hm]; obtain ⟨t, rfl⟩ : ∃ t, tr = t + 1 := ⟨tr - 1, by omega⟩
    simp [Nat.succ_mul]
  have hrow : (r.val + 1) * Wp ≤ M := by rw [← hm]; exact Nat.mul_le_mul_right _ hr
  have hrow' : (r.val + 1) * Wp = r.val * Wp + Wp := Nat.succ_mul _ _
  have key := blkH_apply f K u0 u1 u2 (fun c y w => X c y (w + 1)) Kf a g.h0 g.h1 g.h2 g.hK
  have t1 : extractStridedSlice ⟨2, ![M, 256]⟩ ![0, 256] (blkH f K u0 u1 u2) f.s1 (ix2 q o) = tap X Kf o (a + r) w 1 := by
    rw [third_apply _ 256 _ q o ⟨256 + o.val, by omega⟩ rfl,
      key r ⟨w, by omega⟩ q hq 1 o ⟨256 + o.val, by omega⟩ (by simp)]
    rfl
  have t2 : extractStridedSlice ⟨2, ![M, 256]⟩ ![0, 512] (blkH f K u0 u1 u2) f.s2 (ix2 ⟨q.val + 1, by omega⟩ o)
      = tap X Kf o (a + r) w 2 := by
    rw [third_apply _ 512 _ _ o ⟨512 + o.val, by omega⟩ rfl,
      key r ⟨w + 1, hw⟩ _ (by simp only; omega) 2 o ⟨512 + o.val, by omega⟩ (by simp)]
    rfl
  have t0 : ∃ p : Fin M, (q.val = 0 ∧ p.val = M1 ∨ q.val = p.val + 1) ∧
      extractStridedSlice ⟨2, ![M, 256]⟩ ![0, 0] (blkH f K u0 u1 u2) f.s0 (ix2 p o) = tap X Kf o (a + r) w 0 := by
    have zero : ∀ (p : Fin M) (r' : Fin tr), p.val = r'.val * Wp + (Wp - 1) → w = 0 →
        extractStridedSlice ⟨2, ![M, 256]⟩ ![0, 0] (blkH f K u0 u1 u2) f.s0 (ix2 p o) = tap X Kf o (a + r) w 0 := by
      intro p r' hp hw0
      rw [third_apply _ 0 _ p o ⟨o.val, by omega⟩ (by simp), key r' ⟨Wp - 1, by omega⟩ p hp 0 o ⟨o.val, by omega⟩ (by simp)]
      subst hw0
      unfold tap
      refine Finset.sum_congr rfl fun ky _ => Finset.sum_congr rfl fun c _ => ?_
      have e : Wp - 1 + 1 = Wp := by omega
      simp only [e, Nat.add_zero, g.left, g.right, zero_mul]
    by_cases hw0 : w = 0
    · by_cases hr0 : r.val = 0
      · have hq0 : q.val = 0 := by rw [hq, hw0, hr0]; simp
        exact ⟨⟨M1, by omega⟩, .inl ⟨hq0, rfl⟩, zero _ ⟨tr - 1, by omega⟩ (by simp only; omega) hw0⟩
      · have e : r.val * Wp = (r.val - 1) * Wp + Wp := by
          obtain ⟨t, ht⟩ : ∃ t, r.val = t + 1 := ⟨r.val - 1, by omega⟩
          rw [ht]; simp [Nat.succ_mul]
        exact ⟨⟨q.val - 1, by omega⟩, .inr (by simp only; omega), zero _ ⟨r.val - 1, by omega⟩ (by simp only; omega) hw0⟩
    · refine ⟨⟨q.val - 1, by omega⟩, .inr (by simp only; omega), ?_⟩
      rw [third_apply _ 0 _ _ o ⟨o.val, by omega⟩ (by simp),
        key r ⟨w - 1, by omega⟩ _ (by simp only; omega) 0 o ⟨o.val, by omega⟩ (by simp)]
      have e : w - 1 + 1 = w := by omega
      simp only [e]
      rfl
  obtain ⟨p, hp, t0⟩ := t0
  unfold blkI inter
  rw [ValueIdx.truncf_apply, ValueIdx.maximumf_apply, ValueIdx.addf_apply, ValueIdx.addf_apply, ValueIdx.addf_apply, down_apply f _ q o p hp, t0, t1,
    up_apply f _ q o ⟨q.val + 1, by omega⟩ rfl, t2]
  have hbias : broadcastTo ⟨2, ![M, 256]⟩ bi f.bias (ix2 q o) = b o := by
    rw [← g.hb o]
    refine broadcastTo_apply _ _ _ _ ?_
    intro k; match k with | ⟨0, _⟩ => rfl | ⟨1, _⟩ => rfl
  rw [hbias]
  refine congrArg (max _) ?_
  exact zero_f32

/-- The head's product reads both operands at the channel it sums over. -/
theorem headDot_apply (A : FVec Ideal ⟨2, ![256, 15]⟩ .bf16) (B : FVec Ideal ⟨2, ![M, 256]⟩ .bf16)
    (acc : FVec Ideal ⟨2, ![15, M]⟩ .f32) (j : Fin 15) (q : Fin M) :
    matmul (headDot f.dot2) none A B acc (ix2 j q) = acc (ix2 j q) + ∑ o : Fin 256, A (ix2 o j) * B (ix2 q o) := by
  refine Ideal.matmul_apply₁_of (d := headDot f.dot2) rfl rfl A B acc (ix2 j q) (fun o => ix2 o j) (fun o => ix2 q o) ?_ ?_
  · intro o; funext k; match k with | ⟨0, _⟩ => rfl | ⟨1, _⟩ => rfl
  · intro o; funext k; match k with | ⟨0, _⟩ => rfl | ⟨1, _⟩ => rfl

/-- The block at head `j`, row `r * Wp + w`. -/
theorem blkOut_apply (g : BlockArgs a X Kf b whf bhf bi bh K wh u0 u1 u2) (r : Fin tr) (w : ℕ) (hw : w + 1 < Wp) (q : Fin M)
    (hq : q.val = r.val * Wp + w) (j : Fin 15) :
    blkOut f bi bh K wh u0 u1 u2 (ix3 0 j q) = head X Kf b whf bhf j (a + r) w := by
  unfold blkOut
  rw [shapeCast_apply _ _ (ix3 0 j q) (ix2 j q) (by
    rw [Shape.rowMajor_val_two, Shape.rowMajor_val_three]
    show j.val * M + q.val = (0 * 15 + j.val) * M + q.val
    rw [Nat.zero_mul, Nat.zero_add]), ValueIdx.addf_apply, headDot_apply f, ValueIdx.constant_apply, zero_f32, zero_add]
  unfold head
  have hbias : broadcastTo ⟨2, ![15, M]⟩ bh f.hbias (ix2 j q) = bhf j := by
    rw [← g.hbh j]
    refine broadcastTo_apply _ _ _ _ ?_
    intro k; match k with | ⟨0, _⟩ => rfl | ⟨1, _⟩ => rfl
  rw [hbias]
  refine congrArg (· + _) (Finset.sum_congr rfl fun o _ => ?_)
  rw [g.hw, blkI_apply f g r w hw q hq o]

end Rpn

end
-- ==== Proof.Out.lean ====
module

public import proofs.«01_k».proof.Proof.Block
public import proofs.«01_k».proof.Proof.Maps

/-! From one block to the whole output: every store puts heads at the rows of one map, and a list of stores that covers
    an array leaves at each index what the store there put. -/

@[expose] public section

set_option maxRecDepth 16384

noncomputable section

open Idealize.ShloMosaic hiding ix2 ix3
open Idealize.ShloMosaic.ValueIdx

namespace Rpn

/-- Every store of the list puts at each of its indices what `R` allows there. -/
def Meets {Val : EltTy → Type} {s : Shape} {e : EltTy} (R : s.Idx → Val e → Prop) (L : List (View.Piece Val s e)) : Prop :=
  ∀ p ∈ L, ∀ x, R (p.1.emb x) (p.2 x)

/-- One more store. -/
theorem Meets.cons {Val : EltTy → Type} {s : Shape} {e : EltTy} {R : s.Idx → Val e → Prop} {L : List (View.Piece Val s e)}
    {r : Rect s} {w : r.shape.Idx → Val e} (h : ∀ x, R (r.emb x) (w x)) (hL : Meets R L) : Meets R (⟨r, w⟩ :: L) := by
  intro p hp
  rcases List.mem_cons.mp hp with rfl | hp
  · exact h
  · exact hL p hp

/-- No store at all. -/
theorem Meets.nil {Val : EltTy → Type} {s : Shape} {e : EltTy} {R : s.Idx → Val e → Prop} : Meets (Val := Val) R [] :=
  fun _ hp => absurd hp List.not_mem_nil

/-- What each store of a list puts at each of its indices, the array holds at every index the list covers. -/
theorem canon_all {Val : EltTy → Type} [∀ e, Nonempty (Val e)] {s : Shape} {e : EltTy} (R : s.Idx → Val e → Prop)
    (L : List (View.Piece Val s e)) (h : Meets R L) (y : s.Idx) (hy : ∃ p ∈ L, y ∈ p.1.set) :
    R y (View.canon L y) := by
  induction L with
  | nil => obtain ⟨p, hp, -⟩ := hy; exact absurd hp (List.not_mem_nil)
  | cons p L ih =>
    by_cases hm : y ∈ p.1.set
    · obtain ⟨x, rfl⟩ := p.1.exists_idx_of_mem hm
      have e : View.canon (p :: L) (p.1.emb x) = p.2 x := View.canon_cons_emb p.1 p.2 L x
      exact e ▸ h p (List.mem_cons_self ..) x
    · rw [View.canon_cons_of_not_mem p L hm]
      obtain ⟨q, hq, hqy⟩ := hy
      refine ih (fun p hp => h p (List.mem_cons_of_mem _ hp)) ⟨q, ?_, hqy⟩
      rcases List.mem_cons.mp hq with rfl | hq
      · exact absurd hqy hm
      · exact hq

/-- A matrix read at two numbers; zero outside. -/
def rd2 {a b : ℕ} (X : (⟨2, ![a, b]⟩ : Shape).Idx → EReal) (i j : ℕ) : EReal :=
  if h : i < a ∧ j < b then X (ix2 ⟨i, h.1⟩ ⟨j, h.2⟩) else 0

/-- Inside, it reads the matrix. -/
theorem rd2_eq {a b : ℕ} (X : (⟨2, ![a, b]⟩ : Shape).Idx → EReal) (i : Fin a) (j : Fin b) : rd2 X i j = X (ix2 i j) :=
  dif_pos ⟨i.isLt, j.isLt⟩

/-- The kernel matrix's entry for output channel `o`, input channel `c`, row `ky` and column `kx` of the 3 by 3 window. -/
def kerOf (x5 : FVec Ideal ⟨2, ![768, 768]⟩ .bf16) (o c ky kx : ℕ) : EReal := rd2 x5 (ky * 256 + c) (kx * 256 + o)

/-- A row of a map lies before the next map's start. -/
theorem row_fits {H Wp y w : ℕ} (hy : y < H) (hw : w < Wp) : y * Wp + w < H * Wp := by
  have h1 : (y + 1) * Wp ≤ H * Wp := Nat.mul_le_mul_right _ hy
  have h2 : (y + 1) * Wp = y * Wp + Wp := Nat.succ_mul _ _
  omega

/-- Two maps do not share a row of the output. -/
theorem level_unique (l l' : Fin 5) (y y' w w' : ℕ) (hy : y < lvH l) (hw : w < lvW l) (hy' : y' < lvH l') (hw' : w' < lvW l')
    (h : lvO l + (y * lvW l + w) = lvO l' + (y' * lvW l' + w')) : l = l' := by
  have h1 := row_fits hy hw
  have h2 := row_fits hy' hw'
  revert h h1 h2
  generalize y * lvW l + w = p
  generalize y' * lvW l' + w' = p'
  clear hy hw hy' hw'
  fin_cases l <;> fin_cases l' <;> simp [lvH, lvW, lvO] <;> omega

/-- The output's contract at one index: on a real pixel of map `l`, the head of that pixel. -/
def AtOut (mp : Fin 5 → ℕ → ℕ → ℕ → EReal) (Kf : ℕ → ℕ → ℕ → ℕ → EReal) (b : ℕ → EReal) (whf : ℕ → ℕ → EReal) (bhf : ℕ → EReal)
    (i : (⟨3, ![2, 15, 25856]⟩ : Shape).Idx) (v : EReal) : Prop :=
  ∀ (l : Fin 5) (y w : ℕ), y < lvH l → w < lvH l → (i 2).val = lvO l + (y * lvW l + w) →
    v = head (pad (lvH l) (lvH l) (mp l (i 0).val)) Kf b whf bhf (i 1).val y w

variable {tr R Wp M M1 H : ℕ} {mp : Fin 5 → ℕ → ℕ → ℕ → EReal}
  {bi : FVec Ideal ⟨2, ![1, 256]⟩ .f32} {bh : FVec Ideal ⟨2, ![15, 1]⟩ .f32}
  {K : FVec Ideal ⟨2, ![768, 768]⟩ .bf16} {wh : FVec Ideal ⟨2, ![256, 15]⟩ .bf16}
  {Kf : ℕ → ℕ → ℕ → ℕ → EReal} {b : ℕ → EReal} {whf : ℕ → ℕ → EReal} {bhf : ℕ → EReal}

/-- The operands every block shares are what the specification calls them. -/
structure Shared (Kf : ℕ → ℕ → ℕ → ℕ → EReal) (b : ℕ → EReal) (whf : ℕ → ℕ → EReal) (bhf : ℕ → EReal)
    (bi : FVec Ideal ⟨2, ![1, 256]⟩ .f32) (bh : FVec Ideal ⟨2, ![15, 1]⟩ .f32)
    (K : FVec Ideal ⟨2, ![768, 768]⟩ .bf16) (wh : FVec Ideal ⟨2, ![256, 15]⟩ .bf16) : Prop where
  hK : ∀ (k l : Fin 768) (ky c kx o : ℕ), c < 256 → o < 256 → k.val = ky * 256 + c → l.val = kx * 256 + o →
    K (ix2 k l) = Kf o c ky kx
  hb : ∀ o : Fin 256, bi (ix2 0 o) = b o
  hw : ∀ (o : Fin 256) (j : Fin 15), wh (ix2 o j) = whf o j
  hbh : ∀ j : Fin 15, bh (ix2 j 0) = bhf j

/-- One block's store meets the output's contract. -/
theorem block_store {sig : RefSig} {κ : Kind} {sp : Space} (l : Fin 5) {n a a1 a2 base : ℕ} {x : ℕ → ℕ → EReal}
    {L : List (View.Piece (Elt Ideal) ⟨3, ![R, Wp, 256]⟩ .bf16)} (f : BlockFacts tr Wp M M1)
    (g : Shared Kf b whf bhf bi bh K wh) (v : View sig κ sp ⟨3, ![R, Wp, 256]⟩ .bf16)
    (hL : Good H x L (H + 1)) (hx : mp l n = x) (hH : lvH l = H) (hW : lvW l = Wp) (hHW : H < Wp) (i0 i1 i2 inb)
    (h1 : a1 = a + 1) (h2 : a2 = a + 2) (hbase : base = lvO l + a * Wp) (hfit : a + tr ≤ H) :
    ∀ i : (Rect.unit (s := ⟨3, ![2, 15, 25856]⟩) ![n, 0, base] ![1, 15, M] inb).shape.Idx,
      AtOut mp Kf b whf bhf ((Rect.unit (s := ⟨3, ![2, 15, 25856]⟩) ![n, 0, base] ![1, 15, M] inb).emb i)
        (blkOut f bi bh K wh
          (v.readCov L (Rect.unit (s := ⟨3, ![R, Wp, 256]⟩) ![a, 0, 0] ![tr, Wp, 256] i0).toLoadRect)
          (v.readCov L (Rect.unit (s := ⟨3, ![R, Wp, 256]⟩) ![a1, 0, 0] ![tr, Wp, 256] i1).toLoadRect)
          (v.readCov L (Rect.unit (s := ⟨3, ![R, Wp, 256]⟩) ![a2, 0, 0] ![tr, Wp, 256] i2).toLoadRect) i) := by
  subst h1 h2 hx
  have args : BlockArgs a (pad H H (mp l n)) Kf b whf bhf bi bh K wh
          (v.readCov L (Rect.unit (s := ⟨3, ![R, Wp, 256]⟩) ![a, 0, 0] ![tr, Wp, 256] i0).toLoadRect)
          (v.readCov L (Rect.unit (s := ⟨3, ![R, Wp, 256]⟩) ![a + 1, 0, 0] ![tr, Wp, 256] i1).toLoadRect)
          (v.readCov L (Rect.unit (s := ⟨3, ![R, Wp, 256]⟩) ![a + 2, 0, 0] ![tr, Wp, 256] i2).toLoadRect) :=
    { h0 := fun r w c => good_load v hL i0 r w c
      h1 := fun r w c => (good_load v hL i1 r w c).trans (by rw [Nat.add_right_comm])
      h2 := fun r w c => (good_load v hL i2 r w c).trans (by rw [Nat.add_right_comm])
      left := fun c y => if_neg (by omega)
      right := fun c y => if_neg (by omega)
      hK := g.hK
      hb := g.hb
      hw := g.hw
      hbh := g.hbh }
  intro i l' y w hy hw hi
  have i0 : (i 0).val < 1 := (i 0).isLt
  have i2 : (i 2).val < M := (i 2).isLt
  have e0 : ((Rect.unit (s := ⟨3, ![2, 15, 25856]⟩) ![n, 0, base] ![1, 15, M] inb).emb i 0).val = n + 1 * (i 0).val := rfl
  have e1 : ((Rect.unit (s := ⟨3, ![2, 15, 25856]⟩) ![n, 0, base] ![1, 15, M] inb).emb i 1).val = 0 + 1 * (i 1).val := rfl
  have e2 : ((Rect.unit (s := ⟨3, ![2, 15, 25856]⟩) ![n, 0, base] ![1, 15, M] inb).emb i 2).val = base + 1 * (i 2).val := rfl
  have hWp : 0 < Wp := by omega
  have hm := f.mul
  have hd := Nat.div_add_mod (i 2).val Wp
  have hlt := Nat.mod_lt (i 2).val hWp
  have hcomm : Wp * ((i 2).val / Wp) = ((i 2).val / Wp) * Wp := Nat.mul_comm _ _
  have hr : (i 2).val / Wp < tr := Nat.div_lt_of_lt_mul (by rw [Nat.mul_comm, hm]; exact i2)
  have hadd : (a + (i 2).val / Wp) * Wp = a * Wp + ((i 2).val / Wp) * Wp := Nat.add_mul _ _ _
  have hll : l' = l := by
    refine level_unique l' l y (a + (i 2).val / Wp) w ((i 2).val % Wp) hy ?_ (by rw [hH]; omega) (by rw [hW]; exact hlt) ?_
    · exact lt_of_lt_of_le hw (by fin_cases l' <;> decide)
    · rw [hW]; omega
  subst hll
  rw [hH] at hy hw
  have hpos : y * Wp + w = (a + (i 2).val / Wp) * Wp + (i 2).val % Wp := by
    have hi2 := hi
    rw [hW, e2] at hi2
    omega
  have hyy : y = a + (i 2).val / Wp := by
    have := congrArg (· / Wp) hpos
    simp only at this
    rw [Nat.add_comm, Nat.add_mul_div_right _ _ hWp, Nat.div_eq_of_lt (by omega), Nat.add_comm _ ((i 2).val % Wp),
      Nat.add_mul_div_right _ _ hWp, Nat.div_eq_of_lt hlt] at this
    omega
  have hww : w = (i 2).val % Wp := by
    rw [← hyy] at hpos; omega
  have key := blkOut_apply f args ⟨(i 2).val / Wp, hr⟩ w (by omega) ⟨(i 2).val, i2⟩ (by simp only; omega) (i 1)
  have ei : i = ix3 (n0 := 1) (n1 := 15) (n2 := M) 0 (i 1) ⟨(i 2).val, i2⟩ := by
    funext k; apply Fin.ext
    match k with
    | ⟨0, _⟩ => show (i 0).val = 0; omega
    | ⟨1, _⟩ => rfl
    | ⟨2, _⟩ => rfl
  rw [e0, e1, hH]
  have e3 : n + 1 * (i 0).val = n := by omega
  have e4 : 0 + 1 * (i 1).val = (i 1).val := by omega
  rw [e3, e4, hyy]
  exact (congrArg _ ei).trans key

end Rpn

end
-- ==== Proof.Result.lean ====
module

public import proofs.«01_k».proof.Proof.Stored
public import proofs.«01_k».proof.Proof.Out

/-! The kernel's output block: on every real pixel of every map, its fifteen heads. -/

@[expose] public section

set_option maxRecDepth 16384

noncomputable section

namespace Cert.KernelIdeal.Hand

open Cert.KernelIdeal Cert.KernelIdeal.Gen Rpn
open Idealize.ShloMosaic hiding ix2 ix3
open Idealize.ShloMosaic.TcCoe Idealize.ShloMosaic.ValueIdx

/-- Blocks of the first map. -/
theorem bf0 : BlockFacts 16 144 2304 2303 := by constructor <;> decide
/-- Blocks of the second map. -/
theorem bf1 : BlockFacts 32 80 2560 2559 := by constructor <;> decide
/-- The block of the third map. -/
theorem bf2 : BlockFacts 32 48 1536 1535 := by constructor <;> decide
/-- The block of the fourth map. -/
theorem bf3 : BlockFacts 16 32 512 511 := by constructor <;> decide
/-- The block of the fifth map. -/
theorem bf4 : BlockFacts 8 32 256 255 := by constructor <;> decide

/-- The five maps of the input blocks. -/
def mapOf (x0 : Vec Ideal S2x256x16384 .bf16) (x1 : Vec Ideal S2x256x4096 .bf16) (x2 : Vec Ideal S2x256x1024 .bf16)
    (x3 : Vec Ideal S2x256x256 .bf16) (x4 : Vec Ideal S2x256x64 .bf16) : Fin 5 → ℕ → ℕ → ℕ → EReal :=
  ![flat x0, flat x1, flat x2, flat x3, flat x4]

/-- A whole matrix loaded is the matrix. -/
theorem load_whole {sp : Space} {a b : ℕ} {e : EltTy} (arg : Memref sig .tc sp ⟨2, ![a, b]⟩ e) (h : arg.IsWhole)
    (X : Vec Ideal ⟨2, ![a, b]⟩ e) (inb) :
    View.readAt (Elt Ideal) arg.view (Rect.unit (s := ⟨2, ![a, b]⟩) ![0, 0] ![a, b] inb).toLoadRect (h.unread X) = X := by
  rw [View.readAt_eq_ld, h.read_unread]
  exact View.ld_unit_zero (S := ⟨2, ![a, b]⟩) (by funext k; match k with | ⟨0, _⟩ => rfl | ⟨1, _⟩ => rfl) inb X

/-- The four operands as the blocks read them. -/
theorem shared (c : Dev nD) (arg5 : Memref sig .tc .vmem S768x768 .bf16) (h5 : arg5.IsWhole)
    (arg6 : Memref sig .tc .vmem S256x15 .bf16) (h6 : arg6.IsWhole) (arg7 : Memref sig .tc .vmem S1x256 .f32) (h7 : arg7.IsWhole)
    (arg8 : Memref sig .tc .vmem S1x15 .f32) (h8 : arg8.IsWhole) (x5 : Vec Ideal S768x768 .bf16) (x6 : Vec Ideal S256x15 .bf16)
    (x7 : Vec Ideal S1x256 .f32) (x8 : Vec Ideal S1x15 .f32) :
    Shared (kerOf x5) (rd2 x7 0) (rd2 x6) (rd2 x8 0) (kernelRun0_A.sl.r c arg7 h7 x7) (kernelRun0_A.sl.r_1 c arg8 h8 x8)
      (kernelRun0_A.sl.r_2 c arg5 h5 x5) (kernelRun0_A.sl.r_3 c arg6 h6 x6) := by
  have e7 : kernelRun0_A.sl.r c arg7 h7 x7 = k0_pay2 x7 := congrArg k0_pay2 (load_whole arg7 h7 x7 _)
  have e8 : kernelRun0_A.sl.r_1 c arg8 h8 x8 = k0_pay3 x8 := congrArg k0_pay3 (load_whole arg8 h8 x8 _)
  have e5 : kernelRun0_A.sl.r_2 c arg5 h5 x5 = k0_pay4 x5 := congrArg k0_pay4 (load_whole arg5 h5 x5 _)
  have e6 : kernelRun0_A.sl.r_3 c arg6 h6 x6 = k0_pay5 x6 := congrArg k0_pay5 (load_whole arg6 h6 x6 _)
  rw [e5, e6, e7, e8]
  refine ⟨fun k l ky ch kx o _ _ hk hl => ?_, fun o => ?_, fun o j => ?_, fun j => ?_⟩
  · refine (shapeCast_apply _ shapeCasts_S768x768_S768x768 (ix2 k l) (ix2 k l) rfl).trans ?_
    unfold kerOf
    rw [← hk, ← hl, rd2_eq]
  · refine (shapeCast_apply _ shapeCasts_S256_S1x256 (ix2 0 o) (ValueIdx.ix1 o) ?_).trans
      ((shapeCast_apply _ shapeCasts_S1x256_S256 (ValueIdx.ix1 o) (ix2 0 o) ?_).trans (rd2_eq x7 0 o).symm)
    · rw [Shape.rowMajor_val_two, Shape.rowMajor_val_one]; show o.val = 0 * 256 + o.val; omega
    · rw [Shape.rowMajor_val_two, Shape.rowMajor_val_one]; show 0 * 256 + o.val = o.val; omega
  · exact (shapeCast_apply _ shapeCasts_S256x15_S256x15 (ix2 o j) (ix2 o j) rfl).trans (rd2_eq x6 o j).symm
  · refine (shapeCast_apply _ shapeCasts_S15_S15x1 (ix2 j 0) (ValueIdx.ix1 j) ?_).trans
      ((shapeCast_apply _ shapeCasts_S1x15_S15 (ValueIdx.ix1 j) (ix2 0 j) ?_).trans (rd2_eq x8 0 j).symm)
    · rw [Shape.rowMajor_val_two, Shape.rowMajor_val_one]; show j.val = j.val * 1 + 0; omega
    · rw [Shape.rowMajor_val_two, Shape.rowMajor_val_one]; show 0 * 15 + j.val = j.val; omega

/-- Every store of the kernel meets the output's contract. -/
theorem stores_ok (c : Dev nD) (arg0 : Memref sig .tc .vmem S2x256x16384 .bf16) (h0 : arg0.IsWhole)
    (arg1 : Memref sig .tc .vmem S2x256x4096 .bf16) (h1 : arg1.IsWhole)
    (arg2 : Memref sig .tc .vmem S2x256x1024 .bf16) (h2 : arg2.IsWhole)
    (arg3 : Memref sig .tc .vmem S2x256x256 .bf16) (h3 : arg3.IsWhole)
    (arg4 : Memref sig .tc .vmem S2x256x64 .bf16) (h4 : arg4.IsWhole)
    (arg5 : Memref sig .tc .vmem S768x768 .bf16) (h5 : arg5.IsWhole)
    (arg6 : Memref sig .tc .vmem S256x15 .bf16) (h6 : arg6.IsWhole)
    (arg7 : Memref sig .tc .vmem S1x256 .f32) (h7 : arg7.IsWhole)
    (arg8 : Memref sig .tc .vmem S1x15 .f32) (h8 : arg8.IsWhole)
    (arg9 : Memref sig .tc .vmem S2x15x25856 .f32) (h9 : arg9.IsWhole)
    (arg10 : Memref sig .tc .vmem S130x144x256 .bf16) (h10 : arg10.IsWhole)
    (arg11 : Memref sig .tc .vmem S66x80x256 .bf16) (h11 : arg11.IsWhole)
    (arg12 : Memref sig .tc .vmem S34x48x256 .bf16) (h12 : arg12.IsWhole)
    (arg13 : Memref sig .tc .vmem S18x32x256 .bf16) (h13 : arg13.IsWhole)
    (arg14 : Memref sig .tc .vmem S10x32x256 .bf16) (h14 : arg14.IsWhole)
    (x0 : Vec Ideal S2x256x16384 .bf16)
    (x1 : Vec Ideal S2x256x4096 .bf16)
    (x2 : Vec Ideal S2x256x1024 .bf16)
    (x3 : Vec Ideal S2x256x256 .bf16)
    (x4 : Vec Ideal S2x256x64 .bf16)
    (x5 : Vec Ideal S768x768 .bf16)
    (x6 : Vec Ideal S256x15 .bf16)
    (x7 : Vec Ideal S1x256 .f32)
    (x8 : Vec Ideal S1x15 .f32) :
    Meets (AtOut (mapOf x0 x1 x2 x3 x4) (kerOf x5) (rd2 x7 0) (rd2 x6) (rd2 x8 0))
      (kernelRun0_A (F := Ideal) c arg0 h0 arg1 h1 arg2 h2 arg3 h3 arg4 h4 arg5 h5 arg6 h6 arg7 h7 arg8 h8 arg9 h9 arg10 h10 arg11 h11 arg12 h12 arg13 h13 arg14 h14 x0 x1 x2 x3 x4 x5 x6 x7 x8).1 := by
  have g := shared c arg5 h5 arg6 h6 arg7 h7 arg8 h8 x5 x6 x7 x8
  unfold kernelRun0_A
  dsimp only
  refine Meets.cons (block_store 4 bf4 g arg14.view (map4_1 c arg4 h4 x4) rfl rfl rfl (by decide) _ _ _ _ rfl rfl rfl (by decide)) ?_
  refine Meets.cons (block_store 3 bf3 g arg13.view (map3_1 c arg3 h3 x3) rfl rfl rfl (by decide) _ _ _ _ rfl rfl rfl (by decide)) ?_
  refine Meets.cons (block_store 2 bf2 g arg12.view (map2_1 c arg2 h2 x2) rfl rfl rfl (by decide) _ _ _ _ rfl rfl rfl (by decide)) ?_
  iterate 2 refine Meets.cons (block_store 1 bf1 g arg11.view (map1_1 c arg1 h1 x1) rfl rfl rfl (by decide) _ _ _ _ rfl rfl rfl (by decide)) ?_
  iterate 8 refine Meets.cons (block_store 0 bf0 g arg10.view (map0_1 c arg0 h0 x0) rfl rfl rfl (by decide) _ _ _ _ rfl rfl rfl (by decide)) ?_
  refine Meets.cons (block_store 4 bf4 g arg14.view (map4_0 c arg4 h4 x4) rfl rfl rfl (by decide) _ _ _ _ rfl rfl rfl (by decide)) ?_
  refine Meets.cons (block_store 3 bf3 g arg13.view (map3_0 c arg3 h3 x3) rfl rfl rfl (by decide) _ _ _ _ rfl rfl rfl (by decide)) ?_
  refine Meets.cons (block_store 2 bf2 g arg12.view (map2_0 c arg2 h2 x2) rfl rfl rfl (by decide) _ _ _ _ rfl rfl rfl (by decide)) ?_
  iterate 2 refine Meets.cons (block_store 1 bf1 g arg11.view (map1_0 c arg1 h1 x1) rfl rfl rfl (by decide) _ _ _ _ rfl rfl rfl (by decide)) ?_
  iterate 8 refine Meets.cons (block_store 0 bf0 g arg10.view (map0_0 c arg0 h0 x0) rfl rfl rfl (by decide) _ _ _ _ rfl rfl rfl (by decide)) ?_
  exact Meets.nil

end Cert.KernelIdeal.Hand

end
-- ==== Proof.Entry.lean ====
module

public import proofs.«01_k».proof.Proof.Result
public import Idealize.ShloMosaic.Lib.Claim
public import Idealize.ShloMosaic.Lib.Pipeline.ValueKit
public import Idealize.ShloMosaic.Lib.StableHlo.RunRead

/-! What the host prepares for the kernel: each of its nine input arrays, read at an index, as an element of an
argument. -/

@[expose] public section
set_option maxRecDepth 16384
noncomputable section
namespace Cert.KernelIdeal.Hand
open Cert.KernelIdeal Cert.KernelIdeal.Gen Rpn
open Idealize.ShloMosaic hiding ix2 ix3
open Idealize.ShloMosaic.TcCoe Idealize.ShloMosaic.ValueIdx Idealize.ShloMosaic.Tactic
variable (m : (ℓ : Loc nD τ sig) → Buf (Elt Ideal) ℓ) (c : Dev nD)

/-- A feature map of the arguments, flattened row by row over its pixels. -/
def flatten {H N : ℕ} (x : FVec Ideal ⟨4, ![2, 256, H, H]⟩ .f32) (h : (⟨4, ![2, 256, H, H]⟩ : Shape).ShapeCasts ⟨3, ![2, 256, N]⟩) :
    FVec Ideal ⟨3, ![2, 256, N]⟩ .bf16 :=
  shapeCast ⟨3, ![2, 256, N]⟩ (truncf .bf16 x bitsLt_bf16_f32) h

theorem v1_eq : (V m c main_v1 : FVec Ideal S2x256x16384 .bf16) = flatten (m ((c : Thread nD τ).loc main_arg0)) shapeCasts_S2x256x128x128_S2x256x16384 := by
  show StableHlo.after hostOps0 (fun b => m (c, b)) _ = _
  after_reads_simp
  rfl
theorem v3_eq : (V m c main_v3 : FVec Ideal S2x256x4096 .bf16) = flatten (m ((c : Thread nD τ).loc main_arg1)) shapeCasts_S2x256x64x64_S2x256x4096 := by
  show StableHlo.after hostOps0 (fun b => m (c, b)) _ = _
  after_reads_simp
  rfl
theorem v5_eq : (V m c main_v5 : FVec Ideal S2x256x1024 .bf16) = flatten (m ((c : Thread nD τ).loc main_arg2)) shapeCasts_S2x256x32x32_S2x256x1024 := by
  show StableHlo.after hostOps0 (fun b => m (c, b)) _ = _
  after_reads_simp
  rfl
theorem v7_eq : (V m c main_v7 : FVec Ideal S2x256x256 .bf16) = flatten (m ((c : Thread nD τ).loc main_arg3)) shapeCasts_S2x256x16x16_S2x256x256 := by
  show StableHlo.after hostOps0 (fun b => m (c, b)) _ = _
  after_reads_simp
  rfl
theorem v9_eq : (V m c main_v9 : FVec Ideal S2x256x64 .bf16) = flatten (m ((c : Thread nD τ).loc main_arg4)) shapeCasts_S2x256x8x8_S2x256x64 := by
  show StableHlo.after hostOps0 (fun b => m (c, b)) _ = _
  after_reads_simp
  rfl

/-- The 3×3 weights as the kernel reads them: row `ky·256 + c`, column `kx·256 + o`. -/
theorem v12_eq : (V m c main_v12 : FVec Ideal S768x768 .bf16) = (truncf .bf16 (shapeCast S768x768 (transpose S3x256x3x256 [2, 1, 3, 0] (m ((c : Thread nD τ).loc main_arg7) : FVec Ideal S256x256x3x3 .f32)
    transposes_S256x256x3x3_S3x256x3x256_2_1_3_0) shapeCasts_S3x256x3x256_S768x768) bitsLt_bf16_f32 : FVec Ideal S768x768 .bf16) := by
  show StableHlo.after hostOps0 (fun b => m (c, b)) _ = _
  after_reads_simp
  rfl
theorem v18_eq : (V m c main_v18 : FVec Ideal S256x15 .bf16) = truncf .bf16 (concatenate S256x15 1
    [⟨S256x3, transpose S256x3 [1, 0] (shapeCast S3x256 (m ((c : Thread nD τ).loc main_arg9) : FVec Ideal S3x256x1x1 .f32) shapeCasts_S3x256x1x1_S3x256) transposes_S3x256_S256x3_1_0⟩,
     ⟨S256x12, transpose S256x12 [1, 0] (shapeCast S12x256 (m ((c : Thread nD τ).loc main_arg11) : FVec Ideal S12x256x1x1 .f32) shapeCasts_S12x256x1x1_S12x256) transposes_S12x256_S256x12_1_0⟩]
    concatenates_S256x3_S256x12_S256x15_d1 : FVec Ideal S256x15 .f32) bitsLt_bf16_f32 := by
  show StableHlo.after hostOps0 (fun b => m (c, b)) _ = _
  after_reads_simp
  rfl
theorem v19_eq : (V m c main_v19 : FVec Ideal S1x256 .f32) = shapeCast S1x256 (m ((c : Thread nD τ).loc main_arg8) : FVec Ideal S256 .f32) shapeCasts_S256_S1x256 := by
  show StableHlo.after hostOps0 (fun b => m (c, b)) _ = _
  after_reads_simp
  rfl
theorem v21_eq : (V m c main_v21 : FVec Ideal S1x15 .f32) = shapeCast S1x15 (concatenate S15 0
    [⟨S3, (m ((c : Thread nD τ).loc main_arg10) : FVec Ideal S3 .f32)⟩, ⟨S12, (m ((c : Thread nD τ).loc main_arg12) : FVec Ideal S12 .f32)⟩]
    concatenates_S3_S12_S15_d0 : FVec Ideal S15 .f32) shapeCasts_S15_S1x15 := by
  show StableHlo.after hostOps0 (fun b => m (c, b)) _ = _
  after_reads_simp
  rfl

theorem idx (t : Fin cfg0.N) : (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) := by
  revert t; decide +kernel

theorem i0_eq (t : Fin cfg0.N) : iblk m c 0 t = V m c main_v1 := by
  funext i; blk_ext! [iblk, V, idx t]
theorem i1_eq (t : Fin cfg0.N) : iblk m c 1 t = V m c main_v3 := by
  funext i; blk_ext! [iblk, V, idx t]
theorem i2_eq (t : Fin cfg0.N) : iblk m c 2 t = V m c main_v5 := by
  funext i; blk_ext! [iblk, V, idx t]
theorem i3_eq (t : Fin cfg0.N) : iblk m c 3 t = V m c main_v7 := by
  funext i; blk_ext! [iblk, V, idx t]
theorem i4_eq (t : Fin cfg0.N) : iblk m c 4 t = V m c main_v9 := by
  funext i; blk_ext! [iblk, V, idx t]
theorem i5_eq (t : Fin cfg0.N) : iblk m c 5 t = V m c main_v12 := by
  funext i; blk_ext! [iblk, V, idx t]
theorem i6_eq (t : Fin cfg0.N) : iblk m c 6 t = V m c main_v18 := by
  funext i; blk_ext! [iblk, V, idx t]
theorem i7_eq (t : Fin cfg0.N) : iblk m c 7 t = V m c main_v19 := by
  funext i; blk_ext! [iblk, V, idx t]
theorem i8_eq (t : Fin cfg0.N) : iblk m c 8 t = V m c main_v21 := by
  funext i; blk_ext! [iblk, V, idx t]

end Cert.KernelIdeal.Hand
end
-- ==== Proof.Args.lean ====
module

public import proofs.«01_k».proof.Proof.Spec
public import Idealize.ShloMosaic.Lib.ValueIdx

/-! The two results as functions of the arguments: the classification and box values of every pixel of the five maps. -/

@[expose] public section

noncomputable section

open scoped BigOperators
open Idealize.ShloMosaic
open Idealize.ShloMosaic.ValueIdx

namespace Rpn

/-- A vector read at a natural number, 0 outside. -/
def rd1 {a : ℕ} (X : (⟨1, ![a]⟩ : Shape).Idx → EReal) (i : ℕ) : EReal := if h : i < a then X (ix1 ⟨i, h⟩) else 0

/-- Inside, it reads the vector. -/
theorem rd1_eq {a : ℕ} (X : (⟨1, ![a]⟩ : Shape).Idx → EReal) (i : ℕ) (h : i < a) : rd1 X i = X (ix1 ⟨i, h⟩) := dif_pos h

/-- A four-dimensional array read at natural numbers, 0 outside. -/
def rd4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

/-- Inside, it reads the array. -/
theorem rd4_eq {a b c d : ℕ} (X : (⟨4, ![a, b, c, d]⟩ : Shape).Idx → EReal) (i j k l : ℕ) (hi : i < a) (hj : j < b) (hk : k < c)
    (hl : l < d) : rd4 X i j k l = X (ix4 ⟨i, hi⟩ ⟨j, hj⟩ ⟨k, hk⟩ ⟨l, hl⟩) := dif_pos ⟨hi, hj, hk, hl⟩

/-- A square feature map, its pixels counted row by row. -/
def rows {H : ℕ} (X : (⟨4, ![2, 256, H, H]⟩ : Shape).Idx → EReal) (n c p : ℕ) : EReal := rd4 X n c (p / H) (p % H)

/-- The weights of the 1 by 1 convolutions: three for the classes, then twelve for the boxes. -/
def weightOf (x9 : (⟨4, ![3, 256, 1, 1]⟩ : Shape).Idx → EReal) (x11 : (⟨4, ![12, 256, 1, 1]⟩ : Shape).Idx → EReal) (o j : ℕ) : EReal :=
  if j < 3 then rd4 x9 j o 0 0 else rd4 x11 (j - 3) o 0 0

/-- Their biases. -/
def biasOf (x10 : (⟨1, ![3]⟩ : Shape).Idx → EReal) (x12 : (⟨1, ![12]⟩ : Shape).Idx → EReal) (j : ℕ) : EReal :=
  if j < 3 then rd1 x10 j else rd1 x12 (j - 3)

/-- The arguments that the results depend on. -/
structure Input where
  x0 : (⟨4, ![2, 256, 128, 128]⟩ : Shape).Idx → EReal
  x1 : (⟨4, ![2, 256, 64, 64]⟩ : Shape).Idx → EReal
  x2 : (⟨4, ![2, 256, 32, 32]⟩ : Shape).Idx → EReal
  x3 : (⟨4, ![2, 256, 16, 16]⟩ : Shape).Idx → EReal
  x4 : (⟨4, ![2, 256, 8, 8]⟩ : Shape).Idx → EReal
  x7 : (⟨4, ![256, 256, 3, 3]⟩ : Shape).Idx → EReal
  x8 : (⟨1, ![256]⟩ : Shape).Idx → EReal
  x9 : (⟨4, ![3, 256, 1, 1]⟩ : Shape).Idx → EReal
  x10 : (⟨1, ![3]⟩ : Shape).Idx → EReal
  x11 : (⟨4, ![12, 256, 1, 1]⟩ : Shape).Idx → EReal
  x12 : (⟨1, ![12]⟩ : Shape).Idx → EReal

/-- The five maps. -/
def Input.maps (I : Input) : Fin 5 → ℕ → ℕ → ℕ → EReal := ![rows I.x0, rows I.x1, rows I.x2, rows I.x3, rows I.x4]

/-- Value `j` (of fifteen) at pixel `(y, w)` of map `l` of image `n`. -/
def Input.value (I : Input) (l : Fin 5) (n j y w : ℕ) : EReal :=
  head (pad (lvH l) (lvH l) (I.maps l n)) (rd4 I.x7) (rd1 I.x8) (weightOf I.x9 I.x11) (biasOf I.x10 I.x12) j y w

/-- The value depends on the weights only where the sums read them. -/
theorem head_congr {X X' : ℕ → ℕ → ℕ → EReal} {K K' : ℕ → ℕ → ℕ → ℕ → EReal} {b b' : ℕ → EReal} {wh wh' : ℕ → ℕ → EReal}
    {bh bh' : ℕ → EReal} {j y w : ℕ} (hX : X = X')
    (hK : ∀ o c ky kx, o < 256 → c < 256 → ky < 3 → kx < 3 → K o c ky kx = K' o c ky kx)
    (hb : ∀ o, o < 256 → b o = b' o) (hw : ∀ o, o < 256 → wh o j = wh' o j) (hbh : bh j = bh' j) :
    head X K b wh bh j y w = head X' K' b' wh' bh' j y w := by
  subst hX
  have ht : ∀ (o : Fin 256) kx, kx < 3 → tap X K o y w kx = tap X K' o y w kx := fun o kx hkx =>
    Finset.sum_congr rfl fun ky _ => Finset.sum_congr rfl fun c _ => by rw [hK o c ky kx o.isLt c.isLt ky.isLt hkx]
  unfold head
  rw [hbh]
  refine congrArg (· + _) (Finset.sum_congr rfl fun o _ => ?_)
  rw [hw o o.isLt]
  unfold inter
  rw [ht o 0 (by omega), ht o 1 (by omega), ht o 2 (by omega), hb o o.isLt]

/-- Every position of the 21824 pixels is a pixel of one of the maps. -/
theorem exists_pixel (p : ℕ) (hp : p < 21824) : ∃ (l : Fin 5) (y w : ℕ), y < lvH l ∧ w < lvH l ∧ p = lvP l + (y * lvH l + w) := by
  have key : ∀ (l : Fin 5), 0 < lvH l → lvP l ≤ p → p < lvP l + lvH l * lvH l →
      ∃ (l : Fin 5) (y w : ℕ), y < lvH l ∧ w < lvH l ∧ p = lvP l + (y * lvH l + w) := fun l h0 h1 h2 =>
    ⟨l, (p - lvP l) / lvH l, (p - lvP l) % lvH l, (Nat.div_lt_iff_lt_mul h0).2 (by omega), Nat.mod_lt _ h0, by
      rw [Nat.div_add_mod']; omega⟩
  rcases Nat.lt_or_ge p 16384 with h | h0
  · exact key 0 (by decide) (Nat.zero_le _) (by simpa [lvP, lvH] using h)
  rcases Nat.lt_or_ge p 20480 with h | h1
  · exact key 1 (by decide) h0 (by simpa [lvP, lvH] using h)
  rcases Nat.lt_or_ge p 21504 with h | h2
  · exact key 2 (by decide) h1 (by simpa [lvP, lvH] using h)
  rcases Nat.lt_or_ge p 21760 with h | h3
  · exact key 3 (by decide) h2 (by simpa [lvP, lvH] using h)
  · exact key 4 (by decide) h3 (by simpa [lvP, lvH] using hp)

end Rpn

end
-- ==== Proof.Host.lean ====
module

public import proofs.«01_k».proof.Proof.Entry
public import proofs.«01_k».proof.Proof.Args

/-! The kernel's input arrays, read where the convolution reads them, are the arguments' elements. -/

@[expose] public section
set_option maxRecDepth 16384
noncomputable section
namespace Cert.KernelIdeal.Hand
open Cert.KernelIdeal Cert.KernelIdeal.Gen Rpn
open Idealize.ShloMosaic hiding ix1 ix2 ix3 ix4
open Idealize.ShloMosaic.TcCoe Idealize.ShloMosaic.ValueIdx Idealize.ShloMosaic.Tactic
variable (m : (ℓ : Loc nD τ sig) → Buf (Elt Ideal) ℓ) (c : Dev nD)

/-- A flattened map read at a pixel's number is the map at the pixel's row and column. -/
theorem flat_flatten {H N : ℕ} (hH : 0 < H) (hN : N = H * H) (x : FVec Ideal ⟨4, ![2, 256, H, H]⟩ .f32)
    (h : (⟨4, ![2, 256, H, H]⟩ : Shape).ShapeCasts ⟨3, ![2, 256, N]⟩) : flat (flatten x h) = rows x := by
  funext n ch p
  unfold flat rows rd4
  have hp : p < N ↔ p / H < H := by rw [hN, Nat.div_lt_iff_lt_mul hH]
  have hm : p % H < H := Nat.mod_lt _ hH
  by_cases hc : n < 2 ∧ ch < 256 ∧ p < N
  · rw [dif_pos hc, dif_pos ⟨hc.1, hc.2.1, hp.1 hc.2.2, hm⟩]
    unfold flatten
    rw [shapeCast_apply _ h _ (ix4 ⟨n, hc.1⟩ ⟨ch, hc.2.1⟩ ⟨p / H, hp.1 hc.2.2⟩ ⟨p % H, hm⟩) ?_]
    · rfl
    · rw [Shape.rowMajor_val_four, Shape.rowMajor_val_three]
      show ((n * 256 + ch) * H + p / H) * H + p % H = (n * 256 + ch) * N + p
      rw [Nat.add_mul _ (p / H), Nat.mul_assoc _ H H, ← hN, Nat.add_assoc, Nat.div_add_mod']
  · rw [dif_neg hc, dif_neg]
    rintro ⟨h1, h2, h3, -⟩
    exact hc ⟨h1, h2, hp.2 h3⟩

/-- The weight matrix read at a row and column is the 3 by 3 weight. -/
theorem kerOf_v12 (o ch ky kx : ℕ) (ho : o < 256) (hc : ch < 256) (hy : ky < 3) (hx : kx < 3) :
    kerOf (V m c main_v12) o ch ky kx = rd4 (m ((c : Thread nD τ).loc main_arg7) : FVec Ideal S256x256x3x3 .f32) o ch ky kx := by
  have e := v12_eq m c
  unfold kerOf
  rw [rd4_eq _ _ _ _ _ ho hc hy hx, rd2_eq _ (⟨ky * 256 + ch, by omega⟩ : Fin 768) (⟨kx * 256 + o, by omega⟩ : Fin 768), e]
  rw [ValueIdx.truncf_apply, shapeCast_apply _ shapeCasts_S3x256x3x256_S768x768 _ (ix4 (⟨ky, hy⟩ : Fin 3) (⟨ch, hc⟩ : Fin 256) (⟨kx, hx⟩ : Fin 3) (⟨o, ho⟩ : Fin 256)) ?_]
  · rw [transpose_apply [2, 1, 3, 0] _ transposes_S256x256x3x3_S3x256x3x256_2_1_3_0 _ (ix4 (⟨o, ho⟩ : Fin 256) (⟨ch, hc⟩ : Fin 256) (⟨ky, hy⟩ : Fin 3) (⟨kx, hx⟩ : Fin 3)) ?_]
    · intro a; match a with | 0 => rfl | 1 => rfl | 2 => rfl | 3 => rfl
  · rw [Shape.rowMajor_val_four, Shape.rowMajor_val_two]
    show ((ky * 256 + ch) * 3 + kx) * 256 + o = (ky * 256 + ch) * 768 + (kx * 256 + o)
    omega

/-- The 3 by 3 convolution's bias. -/
theorem bias_v19 (o : ℕ) (ho : o < 256) :
    rd2 (V m c main_v19 : FVec Ideal S1x256 .f32) 0 o = rd1 (m ((c : Thread nD τ).loc main_arg8) : FVec Ideal S256 .f32) o := by
  rw [rd1_eq _ _ ho]
  refine (rd2_eq _ (0 : Fin 1) (⟨o, ho⟩ : Fin 256)).trans ?_
  rw [v19_eq, shapeCast_apply _ shapeCasts_S256_S1x256 _ (ix1 (⟨o, ho⟩ : Fin 256)) ?_]
  rw [Shape.rowMajor_val_one, Shape.rowMajor_val_two]
  show o = 0 * 256 + o
  omega

/-- A 1 by 1 weight, its two unit axes dropped and the others exchanged. -/
theorem head_weight {N : ℕ} (x : FVec Ideal ⟨4, ![N, 256, 1, 1]⟩ .f32) (h : (⟨4, ![N, 256, 1, 1]⟩ : Shape).ShapeCasts ⟨2, ![N, 256]⟩)
    (ht : (⟨2, ![N, 256]⟩ : Shape).Transposes [1, 0] ⟨2, ![256, N]⟩) (o : Fin 256) (j : Fin N) :
    transpose ⟨2, ![256, N]⟩ [1, 0] (shapeCast ⟨2, ![N, 256]⟩ x h) ht (ix2 o j) = x (ix4 j o 0 0) := by
  rw [transpose_apply [1, 0] _ ht _ (ix2 j o) (by intro a; match a with | 0 => rfl | 1 => rfl),
    shapeCast_apply _ h _ (ix4 j o (0 : Fin 1) (0 : Fin 1)) ?_]
  rw [Shape.rowMajor_val_four, Shape.rowMajor_val_two]
  show ((j.val * 256 + o.val) * 1 + 0) * 1 + 0 = j.val * 256 + o.val
  omega

/-- The weights of the fifteen 1 by 1 convolutions. -/
theorem weight_v18 (o j : ℕ) (ho : o < 256) (hj : j < 15) :
    rd2 (V m c main_v18 : FVec Ideal S256x15 .bf16) o j
      = weightOf (m ((c : Thread nD τ).loc main_arg9) : FVec Ideal S3x256x1x1 .f32) (m ((c : Thread nD τ).loc main_arg11) : FVec Ideal S12x256x1x1 .f32) o j := by
  refine (rd2_eq _ (⟨o, ho⟩ : Fin 256) (⟨j, hj⟩ : Fin 15)).trans ?_
  rw [v18_eq, ValueIdx.truncf_apply]
  unfold weightOf
  by_cases h3 : j < 3
  · rw [if_pos h3, rd4_eq _ _ _ _ _ h3 ho (by omega) (by omega)]
    rw [concatenate_pair_apply_left (s₁ := S256x3) (s₂ := S256x12) 1 _ _ concatenates_S256x3_S256x12_S256x15_d1 _ rfl (ix2 (⟨o, ho⟩ : Fin 256) (⟨j, h3⟩ : Fin 3))]
    · exact head_weight _ _ _ _ _
    · intro b; match b with | ⟨0, _⟩ => rfl | ⟨1, _⟩ => rfl
  · rw [if_neg h3, rd4_eq _ _ _ _ _ (by omega : j - 3 < 12) ho (by omega) (by omega)]
    rw [concatenate_pair_apply_right (s₁ := S256x3) (s₂ := S256x12) 1 _ _ concatenates_S256x3_S256x12_S256x15_d1 _ rfl rfl (ix2 (⟨o, ho⟩ : Fin 256) (⟨j - 3, by omega⟩ : Fin 12))]
    · exact head_weight _ _ _ _ _
    · intro b hb; match b with | ⟨0, _⟩ => rfl | ⟨1, _⟩ => exact absurd rfl hb
    · exact Nat.sub_add_cancel (Nat.le_of_not_lt h3)

/-- Their biases. -/
theorem bias_v21 (j : ℕ) (hj : j < 15) :
    rd2 (V m c main_v21 : FVec Ideal S1x15 .f32) 0 j
      = biasOf (m ((c : Thread nD τ).loc main_arg10) : FVec Ideal S3 .f32) (m ((c : Thread nD τ).loc main_arg12) : FVec Ideal S12 .f32) j := by
  refine (rd2_eq _ (0 : Fin 1) (⟨j, hj⟩ : Fin 15)).trans ?_
  rw [v21_eq, shapeCast_apply _ shapeCasts_S15_S1x15 _ (ix1 (⟨j, hj⟩ : Fin 15)) ?_]
  · unfold biasOf
    by_cases h3 : j < 3
    · rw [if_pos h3, rd1_eq _ _ h3]
      rw [concatenate_pair_apply_left (s₁ := S3) (s₂ := S12) 0 _ _ concatenates_S3_S12_S15_d0 _ rfl (ix1 (⟨j, h3⟩ : Fin 3))]
      intro b; match b with | ⟨0, _⟩ => rfl
    · rw [if_neg h3, rd1_eq _ _ (by omega : j - 3 < 12)]
      rw [concatenate_pair_apply_right (s₁ := S3) (s₂ := S12) 0 _ _ concatenates_S3_S12_S15_d0 _ rfl rfl (ix1 (⟨j - 3, by omega⟩ : Fin 12))]
      · intro b hb; match b with | ⟨0, _⟩ => exact absurd rfl hb
      · exact Nat.sub_add_cancel (Nat.le_of_not_lt h3)
  · rw [Shape.rowMajor_val_one, Shape.rowMajor_val_two]
    show j = 0 * 15 + j
    omega

end Cert.KernelIdeal.Hand
end
-- ==== Proof.Tail.lean ====
module

public import proofs.«01_k».proof.Proof.Host

/-! What the host does with the kernel's output: the rows of each map without their padding, one map after the other,
then the classes and the boxes apart. -/

@[expose] public section
set_option maxRecDepth 16384
noncomputable section
namespace Cert.KernelIdeal.Hand
open Cert.KernelIdeal Cert.KernelIdeal.Gen Rpn
open Idealize.ShloMosaic hiding ix1 ix2 ix3 ix4
open Idealize.ShloMosaic.TcCoe Idealize.ShloMosaic.ValueIdx Idealize.ShloMosaic.Tactic

/-- The shape conditions of one map's piece: `N = H * Wp` rows from `off` on, the first `H` of every `Wp` kept, `M = H * H`. -/
structure PieceFacts (H Wp N M off : ℕ) : Prop where
  s0 : Shape.Slices ⟨3, ![2, 25856, 15]⟩ ![0, off, 0] ⟨3, ![2, N, 15]⟩
  c0 : Shape.ShapeCasts ⟨3, ![2, N, 15]⟩ ⟨4, ![2, H, Wp, 15]⟩
  s1 : Shape.Slices ⟨4, ![2, H, Wp, 15]⟩ ![0, 0, 0, 0] ⟨4, ![2, H, H, 15]⟩
  c1 : Shape.ShapeCasts ⟨4, ![2, H, H, 15]⟩ ⟨3, ![2, M, 15]⟩
  hN : N = H * Wp
  hM : M = H * H
  hW : H ≤ Wp
  ho : off + N ≤ 25856

/-- One map's piece of the kernel's output. -/
def piece {H Wp N M off : ℕ} (F : PieceFacts H Wp N M off) (t : FVec Ideal ⟨3, ![2, 25856, 15]⟩ .f32) : FVec Ideal ⟨3, ![2, M, 15]⟩ .f32 :=
  shapeCast ⟨3, ![2, M, 15]⟩ (extractStridedSlice ⟨4, ![2, H, H, 15]⟩ ![0, 0, 0, 0]
    (shapeCast ⟨4, ![2, H, Wp, 15]⟩ (extractStridedSlice ⟨3, ![2, N, 15]⟩ ![0, off, 0] t F.s0) F.c0) F.s1) F.c1

/-- The piece at pixel `(y, w)` is the output row `off + y * Wp + w`. -/
theorem piece_apply {H Wp N M off : ℕ} (F : PieceFacts H Wp N M off) (t : FVec Ideal ⟨3, ![2, 25856, 15]⟩ .f32) (n : Fin 2) (j : Fin 15)
    (y w : ℕ) (hy : y < H) (hw : w < H) (p : Fin M) (hp : p.val = y * H + w) (q : Fin 25856) (hq : q.val = off + (y * Wp + w)) :
    piece F t (ix3 n p j) = t (ix3 n q j) := by
  have hW := F.hW
  have hr : y * Wp + w < N := by rw [F.hN]; exact row_fits hy (by omega)
  unfold piece
  rw [shapeCast_apply _ F.c1 _ (ix4 n (⟨y, hy⟩ : Fin H) (⟨w, hw⟩ : Fin H) j) ?_,
    extractStridedSlice_apply _ _ F.s1 _ (ix4 n (⟨y, hy⟩ : Fin H) (⟨w, by omega⟩ : Fin Wp) j) ?_,
    shapeCast_apply _ F.c0 _ (ix3 n (⟨y * Wp + w, hr⟩ : Fin N) j) ?_,
    extractStridedSlice_apply _ _ F.s0 _ (ix3 n q j) ?_]
  · intro a; match a with
    | ⟨0, _⟩ => exact (Nat.zero_add _).symm
    | ⟨1, _⟩ => exact hq
    | ⟨2, _⟩ => exact (Nat.zero_add _).symm
  · rw [Shape.rowMajor_val_four, Shape.rowMajor_val_three]
    show (n.val * N + (y * Wp + w)) * 15 + j.val = ((n.val * H + y) * Wp + w) * 15 + j.val
    rw [F.hN]; ring
  · intro a; match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · rw [Shape.rowMajor_val_four, Shape.rowMajor_val_three]
    show ((n.val * H + y) * H + w) * 15 + j.val = (n.val * M + p.val) * 15 + j.val
    rw [hp, F.hM]; ring

/-- Map 0's piece meets its shape conditions. -/
theorem pf0 : PieceFacts 128 144 18432 16384 0 := ⟨slices_S2x25856x15_S2x18432x15_0_0_0, shapeCasts_S2x18432x15_S2x128x144x15, slices_S2x128x144x15_S2x128x128x15_0_0_0_0, shapeCasts_S2x128x128x15_S2x16384x15, rfl, rfl, by omega, by omega⟩
/-- Map 1's piece meets its shape conditions. -/
theorem pf1 : PieceFacts 64 80 5120 4096 18432 := ⟨slices_S2x25856x15_S2x5120x15_0_18432_0, shapeCasts_S2x5120x15_S2x64x80x15, slices_S2x64x80x15_S2x64x64x15_0_0_0_0, shapeCasts_S2x64x64x15_S2x4096x15, rfl, rfl, by omega, by omega⟩
/-- Map 2's piece meets its shape conditions. -/
theorem pf2 : PieceFacts 32 48 1536 1024 23552 := ⟨slices_S2x25856x15_S2x1536x15_0_23552_0, shapeCasts_S2x1536x15_S2x32x48x15, slices_S2x32x48x15_S2x32x32x15_0_0_0_0, shapeCasts_S2x32x32x15_S2x1024x15, rfl, rfl, by omega, by omega⟩
/-- Map 3's piece meets its shape conditions. -/
theorem pf3 : PieceFacts 16 32 512 256 25088 := ⟨slices_S2x25856x15_S2x512x15_0_25088_0, shapeCasts_S2x512x15_S2x16x32x15, slices_S2x16x32x15_S2x16x16x15_0_0_0_0, shapeCasts_S2x16x16x15_S2x256x15, rfl, rfl, by omega, by omega⟩
/-- Map 4's piece meets its shape conditions. -/
theorem pf4 : PieceFacts 8 32 256 64 25600 := ⟨slices_S2x25856x15_S2x256x15_0_25600_0, shapeCasts_S2x256x15_S2x8x32x15, slices_S2x8x32x15_S2x8x8x15_0_0_0_0, shapeCasts_S2x8x8x15_S2x64x15, rfl, rfl, by omega, by omega⟩

/-- The kernel's output with its last two axes exchanged. -/
def swapped (o : FVec Ideal S2x15x25856 .f32) : FVec Ideal S2x25856x15 .f32 :=
  transpose S2x25856x15 [0, 2, 1] o transposes_S2x15x25856_S2x25856x15_0_2_1

/-- The five pieces. -/
abbrev pieces (o : FVec Ideal S2x15x25856 .f32) : List ((s : Shape) × (s.Idx → EReal)) :=
  [⟨S2x16384x15, piece pf0 (swapped o)⟩, ⟨S2x4096x15, piece pf1 (swapped o)⟩, ⟨S2x1024x15, piece pf2 (swapped o)⟩,
    ⟨S2x256x15, piece pf3 (swapped o)⟩, ⟨S2x64x15, piece pf4 (swapped o)⟩]

/-- All pixels of the five maps, with their fifteen values. -/
def pixels (o : FVec Ideal S2x15x25856 .f32) : FVec Ideal S2x21824x15 .f32 :=
  concatenate S2x21824x15 1 (pieces o)
    concatenates_S2x16384x15_S2x4096x15_S2x1024x15_S2x256x15_S2x64x15_S2x21824x15_d1

/-- The class values, three per pixel. -/
def classes (o : FVec Ideal S2x15x25856 .f32) : FVec Ideal S2x65472 .f32 :=
  shapeCast S2x65472 (extractStridedSlice S2x21824x3 ![0, 0, 0] (pixels o) slices_S2x21824x15_S2x21824x3_0_0_0) shapeCasts_S2x21824x3_S2x65472

/-- The box values, three times four per pixel. -/
def boxes (o : FVec Ideal S2x15x25856 .f32) : FVec Ideal S2x65472x4 .f32 :=
  shapeCast S2x65472x4 (extractStridedSlice S2x21824x12 ![0, 0, 3] (pixels o) slices_S2x21824x15_S2x21824x12_0_0_3) shapeCasts_S2x21824x12_S2x65472x4

/-- The host's first result, from the kernel's output. -/
theorem tail_v46 (W : Valuation τ sig (Elt Ideal)) :
    (StableHlo.after hostOps1 W (Proc.devRef .tc main_v46) : FVec Ideal S2x65472 .f32) = classes (W (Proc.devRef .tc main_v22)) := by
  after_reads_simp
  rfl

/-- The host's second result. -/
theorem tail_v48 (W : Valuation τ sig (Elt Ideal)) :
    (StableHlo.after hostOps1 W (Proc.devRef .tc main_v48) : FVec Ideal S2x65472x4 .f32) = boxes (W (Proc.devRef .tc main_v22)) := by
  after_reads_simp
  rfl

/-- The pixel's values are the kernel's output at the pixel's row. -/
theorem pixels_apply (o : FVec Ideal S2x15x25856 .f32) (l : Fin 5) (n : Fin 2) (j : Fin 15) (y w : ℕ) (hy : y < lvH l) (hw : w < lvH l)
    (p : Fin 21824) (hp : p.val = lvP l + (y * lvH l + w)) (q : Fin 25856) (hq : q.val = lvO l + (y * lvW l + w)) :
    pixels o (ix3 n p j) = o (ix3 n j q) := by
  have hs : swapped o (ix3 n q j) = o (ix3 n j q) :=
    transpose_apply [0, 2, 1] o _ _ (ix3 n j q) (by intro a; match a with | 0 => rfl | 1 => rfl | 2 => rfl)
  rw [← hs]
  unfold pixels
  have step : ∀ {H Wp N M off : ℕ} (F : PieceFacts H Wp N M off) (k pre : ℕ) (hk : k < (pieces o).length)
      (_ : (pieces o)[k] = ⟨⟨3, ![2, M, 15]⟩, piece F (swapped o)⟩)
      (_ : ((((pieces o).take k).map (·.1)).map fun s => if h : s.rank = S2x21824x15.rank then s.size ((1 : Fin S2x21824x15.rank).cast h.symm) else 0).sum = pre), y < H → w < H → p.val = pre + (y * H + w) → q.val = off + (y * Wp + w) →
      concatenate S2x21824x15 1 (pieces o)
        concatenates_S2x16384x15_S2x4096x15_S2x1024x15_S2x256x15_S2x64x15_S2x21824x15_d1 (ix3 n p j) = swapped o (ix3 n q j) := by
    intro H Wp N M off F k pre hk hx hpre hy hw hp hq
    have hr : y * H + w < M := by rw [F.hM]; exact row_fits hy hw
    refine (concatenate_apply_piece 1 (pieces o) _ (ix3 n p j) k hk ⟨3, ![2, M, 15]⟩ (piece F (swapped o)) hx rfl pre hpre
        (ix3 n (⟨y * H + w, hr⟩ : Fin M) j) ?_ hp.symm).trans ?_
    · intro b hb; match b with
      | ⟨0, _⟩ => rfl
      | ⟨1, _⟩ => exact absurd rfl hb
      | ⟨2, _⟩ => rfl
    · exact piece_apply F _ n j y w hy hw _ rfl q hq
  match l, hy, hw, hp, hq with
  | 0, hy, hw, hp, hq => exact step pf0 0 0 (by simp) rfl rfl hy hw hp hq
  | 1, hy, hw, hp, hq => exact step pf1 1 16384 (by simp) rfl rfl hy hw hp hq
  | 2, hy, hw, hp, hq => exact step pf2 2 20480 (by simp) rfl rfl hy hw hp hq
  | 3, hy, hw, hp, hq => exact step pf3 3 21504 (by simp) rfl rfl hy hw hp hq
  | 4, hy, hw, hp, hq => exact step pf4 4 21760 (by simp) rfl rfl hy hw hp hq

/-- A class value is one of the pixel's first three. -/
theorem classes_apply (o : FVec Ideal S2x15x25856 .f32) (n : Fin 2) (p : Fin 21824) (a : Fin 3) (r : Fin 65472) (hr : r.val = p.val * 3 + a.val) :
    classes o (ix2 n r) = pixels o (ix3 n p ⟨a.val, by omega⟩) := by
  unfold classes
  rw [shapeCast_apply _ shapeCasts_S2x21824x3_S2x65472 _ (ix3 n p a) ?_, extractStridedSlice_apply _ _ slices_S2x21824x15_S2x21824x3_0_0_0 _ (ix3 n p (⟨a.val, by omega⟩ : Fin 15)) ?_]
  · intro b; match b with
    | ⟨0, _⟩ => exact (Nat.zero_add _).symm
    | ⟨1, _⟩ => exact (Nat.zero_add _).symm
    | ⟨2, _⟩ => exact (Nat.zero_add _).symm
  · rw [Shape.rowMajor_val_three, Shape.rowMajor_val_two]
    show (n.val * 21824 + p.val) * 3 + a.val = n.val * 65472 + r.val
    omega

/-- A box value is one of the pixel's last twelve. -/
theorem boxes_apply (o : FVec Ideal S2x15x25856 .f32) (n : Fin 2) (p : Fin 21824) (a : Fin 3) (b : Fin 4) (r : Fin 65472) (hr : r.val = p.val * 3 + a.val) :
    boxes o (ix3 n r b) = pixels o (ix3 n p ⟨3 + (a.val * 4 + b.val), by omega⟩) := by
  unfold boxes
  rw [shapeCast_apply _ shapeCasts_S2x21824x12_S2x65472x4 _ (ix3 n p (⟨a.val * 4 + b.val, by omega⟩ : Fin 12)) ?_,
    extractStridedSlice_apply _ _ slices_S2x21824x15_S2x21824x12_0_0_3 _ (ix3 n p (⟨3 + (a.val * 4 + b.val), by omega⟩ : Fin 15)) ?_]
  · intro b; match b with
    | ⟨0, _⟩ => exact (Nat.zero_add _).symm
    | ⟨1, _⟩ => exact (Nat.zero_add _).symm
    | ⟨2, _⟩ => rfl
  · rw [Shape.rowMajor_val_three, Shape.rowMajor_val_three]
    show (n.val * 21824 + p.val) * 12 + (a.val * 4 + b.val) = (n.val * 65472 + r.val) * 4 + b.val
    omega

end Cert.KernelIdeal.Hand
end
-- ==== Proof.Array.lean ====
module

public import proofs.«01_k».proof.Proof.Tail

/-! What the kernel's output array holds after the run, and the two results computed from it, in terms of the arguments. -/

@[expose] public section
set_option maxRecDepth 16384
noncomputable section
namespace Cert.KernelIdeal.Hand
open Cert.KernelIdeal Cert.KernelIdeal.Gen Rpn
open Idealize.ShloMosaic hiding ix1 ix2 ix3 ix4
open Idealize.ShloMosaic.TcCoe Idealize.ShloMosaic.ValueIdx Idealize.ShloMosaic.Tactic
variable (m : (ℓ : Loc nD τ sig) → Buf (Elt Ideal) ℓ) (c : Dev nD)

/-- The arguments that the results depend on, as they stand in the memory. -/
def input : Input where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)

/-- The body leaves the right value at every place of its output that a pixel owns. -/
theorem block_ok (t : Fin cfg0.N) (y : S2x15x25856.Idx) :
    AtOut (mapOf (V m c main_v1) (V m c main_v3) (V m c main_v5) (V m c main_v7) (V m c main_v9)) (kerOf (V m c main_v12))
      (rd2 (V m c main_v19 : FVec Ideal S1x256 .f32) 0) (rd2 (V m c main_v18 : FVec Ideal S256x15 .bf16))
      (rd2 (V m c main_v21 : FVec Ideal S1x15 .f32) 0) y (outsAt0 m c t y) := by
  unfold outsAt0 out0_A_9
  rw [View.read_writes_eq_canon _ _ _ (cover0_A_9 c _ _ _ _ _ _ _ _ _ _ _ _ _ _ _ _ _ _ _ _ _ _ _ _ _ _ _ _ _ _ _ _ _ _ _ _ _ _ _)]
  rw [i0_eq m c t, i1_eq m c t, i2_eq m c t, i3_eq m c t, i4_eq m c t, i5_eq m c t, i6_eq m c t, i7_eq m c t, i8_eq m c t]
  exact canon_all _ _ (stores_ok c _ _ _ _ _ _ _ _ _ _ _ _ _ _ _ _ _ _ _ _ _ _ _ _ _ _ _ _ _ _ _ _ _ _ _ _ _ _ _) y
    (cover0_A_9 c _ _ _ _ _ _ _ _ _ _ _ _ _ _ _ _ _ _ _ _ _ _ _ _ _ _ _ _ _ _ _ _ _ _ _ _ _ _ _ y)

/-- The flattened maps are the arguments' maps. -/
theorem maps_eq (l : Fin 5) :
    mapOf (V m c main_v1) (V m c main_v3) (V m c main_v5) (V m c main_v7) (V m c main_v9) l = (input m c).maps l := by
  match l with
  | 0 => exact (congrArg (flat (N := 16384)) (v1_eq m c)).trans (flat_flatten (by omega) rfl _ _)
  | 1 => exact (congrArg (flat (N := 4096)) (v3_eq m c)).trans (flat_flatten (by omega) rfl _ _)
  | 2 => exact (congrArg (flat (N := 1024)) (v5_eq m c)).trans (flat_flatten (by omega) rfl _ _)
  | 3 => exact (congrArg (flat (N := 256)) (v7_eq m c)).trans (flat_flatten (by omega) rfl _ _)
  | 4 => exact (congrArg (flat (N := 64)) (v9_eq m c)).trans (flat_flatten (by omega) rfl _ _)

/-- The output array after the run is what the body leaves at the only point. -/
theorem array_eq : (dats m 0 c).arrAt 9 (cfgs 0).N = outsAt0 m c t0_0 := by
  refine (dats m 0 c).arrAt_eq_of_after_last 9 t0_0 (by decide +kernel) _ fun j => ?_
  blk_simp
  rw [after0_9]

/-- The output at a pixel's row is the pixel's value. -/
theorem output_apply (t : Fin cfg0.N) (n : Fin 2) (j : Fin 15) (q : Fin 25856) (l : Fin 5) (y w : ℕ) (hy : y < lvH l) (hw : w < lvH l)
    (hq : q.val = lvO l + (y * lvW l + w)) : outsAt0 m c t (ix3 n j q) = (input m c).value l n j y w := by
  refine (block_ok m c t (ix3 n j q) l y w hy hw hq).trans ?_
  unfold Input.value
  refine head_congr ?_ (fun o ch ky kx h1 h2 h3 h4 => kerOf_v12 m c o ch ky kx h1 h2 h3 h4) (fun o h => bias_v19 m c o h)
    (fun o h => weight_v18 m c o j h j.isLt) (bias_v21 m c j j.isLt)
  rw [maps_eq]

/-- A pixel's row lies inside the output. -/
theorem row_lt (l : Fin 5) (y w : ℕ) (hy : y < lvH l) (hw : w < lvH l) : lvO l + (y * lvW l + w) < 25856 := by
  match l, hy, hw with
  | 0, hy, hw => exact (by have : y < 128 := hy; have : w < 128 := hw; omega : 0 + (y * 144 + w) < 25856)
  | 1, hy, hw => exact (by have : y < 64 := hy; have : w < 64 := hw; omega : 18432 + (y * 80 + w) < 25856)
  | 2, hy, hw => exact (by have : y < 32 := hy; have : w < 32 := hw; omega : 23552 + (y * 48 + w) < 25856)
  | 3, hy, hw => exact (by have : y < 16 := hy; have : w < 16 := hw; omega : 25088 + (y * 32 + w) < 25856)
  | 4, hy, hw => exact (by have : y < 8 := hy; have : w < 8 := hw; omega : 25600 + (y * 32 + w) < 25856)

/-- The first result: class `a` of pixel `(y, w)` of map `l`. -/
theorem classes_value (t : Fin cfg0.N) (n : Fin 2) (a : Fin 3) (r : Fin 65472) (l : Fin 5) (y w : ℕ) (hy : y < lvH l) (hw : w < lvH l)
    (p : Fin 21824) (hp : p.val = lvP l + (y * lvH l + w)) (hr : r.val = p.val * 3 + a.val) :
    classes (outsAt0 m c t) (ix2 n r) = (input m c).value l n a y w := by
  have hq := row_lt l y w hy hw
  rw [classes_apply _ n p a r hr, pixels_apply _ l n _ y w hy hw p hp ⟨_, hq⟩ rfl]
  exact output_apply m c t n _ _ l y w hy hw rfl

/-- The second result: coordinate `b` of box `a` of pixel `(y, w)` of map `l`. -/
theorem boxes_value (t : Fin cfg0.N) (n : Fin 2) (a : Fin 3) (b : Fin 4) (r : Fin 65472) (l : Fin 5) (y w : ℕ) (hy : y < lvH l) (hw : w < lvH l)
    (p : Fin 21824) (hp : p.val = lvP l + (y * lvH l + w)) (hr : r.val = p.val * 3 + a.val) :
    boxes (outsAt0 m c t) (ix3 n r b) = (input m c).value l n (3 + (a.val * 4 + b.val)) y w := by
  have hq := row_lt l y w hy hw
  rw [boxes_apply _ n p a b r hr, pixels_apply _ l n _ y w hy hw p hp ⟨_, hq⟩ rfl]
  exact output_apply m c t n _ _ l y w hy hw rfl

/-- What the two result buffers hold when the program ends. -/
theorem result_v46 : (Pipeline.afterTail₀ cfgs (dats m) 0 (V0 m) [hostOps1] c main_v46 : FVec Ideal S2x65472 .f32) = classes (outsAt0 m c t0_0) := by
  rw [← array_eq m c]
  refine (tail_v46 _).trans (congrArg classes ?_)
  exact Pipeline.withArrays_arr _ launch0.win.arr_inj c _ _ 9

/-- The program's second result is the boxes of the kernel's output. -/
theorem result_v48 : (Pipeline.afterTail₀ cfgs (dats m) 0 (V0 m) [hostOps1] c main_v48 : FVec Ideal S2x65472x4 .f32) = boxes (outsAt0 m c t0_0) := by
  rw [← array_eq m c]
  refine (tail_v48 _).trans (congrArg boxes ?_)
  exact Pipeline.withArrays_arr _ launch0.win.arr_inj c _ _ 9

end Cert.KernelIdeal.Hand
end
-- ==== Proof.RefLevel.lean ====
module

public import proofs.«01_k».proof.Proof.Args
public import Idealize.ShloMosaic.Lib.Pipeline.Value
public import Idealize.ShloMosaic.Lib.KernelVsHost
public import Idealize.ShloMosaic.PureOps.Ideal.Laws

/-! What the reference computes on one map, stated once for every size `H`: the convolution as nine products of a shifted
map with a 256 by 256 slice of the weights, then the 1 by 1 convolutions. -/

@[expose] public section

set_option maxRecDepth 16384

noncomputable section

open scoped BigOperators
open Idealize.ShloMosaic
open Idealize.ShloMosaic.ValueIdx

namespace Rpn.Plain

/-- The product over channels of an `O` by 256 matrix with a map. -/
def mixDims {O H : ℕ} (h : DotDims.WF ⟨2, ![O, 256]⟩ ⟨4, ![2, 256, H, H]⟩ ⟨4, ![O, 2, H, H]⟩ [1] [1] [0] [0, 2, 3] [] []) :
    DotDims ⟨2, ![O, 256]⟩ ⟨4, ![2, 256, H, H]⟩ ⟨4, ![O, 2, H, H]⟩ where
  lhsContracting := [1]
  rhsContracting := [1]
  lhsNonContracting := [0]
  rhsNonContracting := [0, 2, 3]
  lhsBatch := []
  rhsBatch := []
  wf := h

/-- The shape conditions of such a product, of its weights read as a matrix and of its bias. -/
structure MixFacts (O H : ℕ) : Prop where
  dot : DotDims.WF ⟨2, ![O, 256]⟩ ⟨4, ![2, 256, H, H]⟩ ⟨4, ![O, 2, H, H]⟩ [1] [1] [0] [0, 2, 3] [] []
  tr : Shape.Transposes ⟨4, ![O, 2, H, H]⟩ [1, 0, 2, 3] ⟨4, ![2, O, H, H]⟩
  mat : Shape.ShapeCasts ⟨4, ![O, 256, 1, 1]⟩ ⟨2, ![O, 256]⟩
  b1 : Shape.BroadcastsInDim ⟨1, ![O]⟩ ⟨4, ![1, O, 1, 1]⟩ (![1] : Fin 1 → Fin 4)
  b4 : Shape.BroadcastsInDim ⟨4, ![1, O, 1, 1]⟩ ⟨4, ![2, O, H, H]⟩ (![0, 1, 2, 3] : Fin 4 → Fin 4)
  ho : O ≠ 1

/-- The product, images first. -/
def mix {O H : ℕ} (F : MixFacts O H) (W : FVec Ideal ⟨4, ![O, 256, 1, 1]⟩ .f32) (X : FVec Ideal ⟨4, ![2, 256, H, H]⟩ .f32) :
    FVec Ideal ⟨4, ![2, O, H, H]⟩ .f32 :=
  transpose ⟨4, ![2, O, H, H]⟩ [1, 0, 2, 3]
    (Host.dotGeneral (mixDims F.dot) none (shapeCast ⟨2, ![O, 256]⟩ W F.mat) X : FVec Ideal ⟨4, ![O, 2, H, H]⟩ .f32) F.tr

/-- The bias spread over the map. -/
def spread {O H : ℕ} (F : MixFacts O H) (b : FVec Ideal ⟨1, ![O]⟩ .f32) : FVec Ideal ⟨4, ![2, O, H, H]⟩ .f32 :=
  broadcastInDim ⟨4, ![2, O, H, H]⟩ ![0, 1, 2, 3] F.b4 (broadcastInDim ⟨4, ![1, O, 1, 1]⟩ ![1] F.b1 b)

/-- The untransposed product at an index is the sum over the channels. -/
theorem dot_apply {O H : ℕ} (h : DotDims.WF ⟨2, ![O, 256]⟩ ⟨4, ![2, 256, H, H]⟩ ⟨4, ![O, 2, H, H]⟩ [1] [1] [0] [0, 2, 3] [] [])
    (W : FVec Ideal ⟨2, ![O, 256]⟩ .f32) (X : FVec Ideal ⟨4, ![2, 256, H, H]⟩ .f32) (n : Fin 2) (o : Fin O) (y w : Fin H) :
    (Host.dotGeneral (mixDims h) none W X : FVec Ideal ⟨4, ![O, 2, H, H]⟩ .f32) (ix4 o n y w)
      = ∑ k : Fin 256, W (ix2 o k) * X (ix4 n k y w) := by
  simp only [Host.dotGeneral]
  rw [Ideal.dotGeneral_apply, ← Equiv.sum_comp (contrEquiv1 (mixDims h) 256 rfl rfl).symm]
  refine Finset.sum_congr rfl fun k _ => ?_
  have hk := contrEquiv1_symm_val (mixDims h) 256 rfl rfl k
  generalize (contrEquiv1 (mixDims h) 256 rfl rfl).symm k = q at hk
  have hl : ∀ a (ha : a ∈ (mixDims h).lhsNonContracting) (_ : a ∉ (mixDims h).lhsBatch),
      ((mixDims h).lhsIdx (ix4 o n y w) q a).val = ((ix4 o n y w : (⟨4, ![O, 2, H, H]⟩ : Shape).Idx)
        (((mixDims h).lhsNonContracting.idxOf a : ℕ) |> fun i => (⟨i % 4, Nat.mod_lt _ (by decide)⟩ : Fin 4))).val := by
    intro a ha hb
    have h0 : a = (0 : Fin 2) := by simpa [mixDims] using ha
    subst h0
    unfold DotDims.lhsIdx
    rw [dif_neg hb, dif_pos ha]
    rfl
  have el : (mixDims h).lhsIdx (ix4 o n y w) q = ix2 o k := funext fun a => Fin.ext (by
    match a with
    | ⟨0, _⟩ => exact hl 0 (by simp [mixDims]) (by simp [mixDims])
    | ⟨1, _⟩ => exact ((mixDims h).lhsIdx_val_of_single rfl _ q).trans hk)
  have hr : ∀ (a : Fin 4) (ha : a ∈ (mixDims h).rhsNonContracting) (_ : a ∉ (mixDims h).rhsBatch) (b : Fin 4),
      (a = 0 ∧ b = 1 ∨ a = 2 ∧ b = 2 ∨ a = 3 ∧ b = 3) →
      ((mixDims h).rhsIdx (ix4 o n y w) q a).val = ((ix4 o n y w : (⟨4, ![O, 2, H, H]⟩ : Shape).Idx) b).val := by
    rintro a ha hb b (⟨rfl, rfl⟩ | ⟨rfl, rfl⟩ | ⟨rfl, rfl⟩) <;>
    · unfold DotDims.rhsIdx
      rw [dif_neg hb, dif_pos ha]
      rfl
  have er : (mixDims h).rhsIdx (ix4 o n y w) q = ix4 n k y w := funext fun a => Fin.ext (by
    match a with
    | ⟨0, _⟩ => exact hr 0 (by simp [mixDims]) (by simp [mixDims]) 1 (by decide)
    | ⟨1, _⟩ => exact ((mixDims h).rhsIdx_val_of_single rfl _ q).trans hk
    | ⟨2, _⟩ => exact hr 2 (by simp [mixDims]) (by simp [mixDims]) 2 (by decide)
    | ⟨3, _⟩ => exact hr 3 (by simp [mixDims]) (by simp [mixDims]) 3 (by decide))
  rw [el, er]

/-- The product at an index is the sum over the channels. -/
theorem mix_apply {O H : ℕ} (F : MixFacts O H) (W : FVec Ideal ⟨4, ![O, 256, 1, 1]⟩ .f32) (X : FVec Ideal ⟨4, ![2, 256, H, H]⟩ .f32)
    (n : Fin 2) (o : Fin O) (y w : Fin H) :
    mix F W X (ix4 n o y w) = ∑ k : Fin 256, W (ix4 o k 0 0) * X (ix4 n k y w) := by
  unfold mix
  rw [transpose_apply _ _ F.tr _ (ix4 o n y w) ?_, dot_apply]
  · refine Finset.sum_congr rfl fun k _ => congrArg (· * _) ?_
    refine shapeCast_apply _ F.mat _ _ ?_
    rw [Shape.rowMajor_val_four, Shape.rowMajor_val_two]
    show ((o.val * 256 + k.val) * 1 + 0) * 1 + 0 = o.val * 256 + k.val
    omega
  · intro b; match b with
    | ⟨0, _⟩ => rfl
    | ⟨1, _⟩ => rfl
    | ⟨2, _⟩ => rfl
    | ⟨3, _⟩ => rfl

/-- The bias spread over the map, at an index. -/
theorem spread_apply {O H : ℕ} (F : MixFacts O H) (b : FVec Ideal ⟨1, ![O]⟩ .f32) (n : Fin 2) (o : Fin O) (y w : Fin H) :
    spread F b (ix4 n o y w) = b (ix1 o) := by
  unfold spread
  rw [broadcastInDim_apply _ F.b4 _ _ (ix4 0 o 0 0) ?_, broadcastInDim_apply _ F.b1 _ _ (ix1 o) ?_]
  · intro a; match a with
    | ⟨0, _⟩ => exact (if_neg F.ho).symm
  · intro a; match a with
    | ⟨0, _⟩ => exact (if_pos rfl).symm
    | ⟨1, _⟩ => exact (if_neg F.ho).symm
    | ⟨2, _⟩ => exact (if_pos rfl).symm
    | ⟨3, _⟩ => exact (if_pos rfl).symm

/-- The shape conditions of one map; `P` is its size with the border. -/
structure LevelFacts (H P : ℕ) : Prop where
  m : MixFacts 256 H
  pads : Shape.Pads ⟨4, ![2, 256, H, H]⟩ (![0, 0, 1, 1] : Fin 4 → ℕ) ![0, 0, 1, 1] ![0, 0, 0, 0] ⟨4, ![2, 256, P, P]⟩
  one : 0 < (⟨0, ![]⟩ : Shape).numel
  z : Shape.BroadcastsInDim ⟨0, ![]⟩ ⟨4, ![2, 256, H, H]⟩ (![] : Fin 0 → Fin 4)
  hP : P = H + 2

/-- A map shifted by less than three fits in its bordered map. -/
theorem slices_map {H P : ℕ} (h : P = H + 2) (ky kx : ℕ) (hy : ky < 3) (hx : kx < 3) :
    Shape.Slices ⟨4, ![2, 256, P, P]⟩ ![0, 0, ky, kx] ⟨4, ![2, 256, H, H]⟩ :=
  ⟨rfl, fun a => match a with
    | ⟨0, _⟩ => Nat.le_refl 2
    | ⟨1, _⟩ => Nat.le_refl 256
    | ⟨2, _⟩ => show ky + H ≤ P by omega
    | ⟨3, _⟩ => show kx + H ≤ P by omega⟩

/-- One position of the kernel is a part of it. -/
theorem slices_kernel (ky kx : ℕ) (hy : ky < 3) (hx : kx < 3) :
    Shape.Slices ⟨4, ![256, 256, 3, 3]⟩ ![0, 0, ky, kx] ⟨4, ![256, 256, 1, 1]⟩ :=
  ⟨rfl, fun a => match a with
    | ⟨0, _⟩ => Nat.le_refl 256
    | ⟨1, _⟩ => Nat.le_refl 256
    | ⟨2, _⟩ => show ky + 1 ≤ 3 by omega
    | ⟨3, _⟩ => show kx + 1 ≤ 3 by omega⟩

variable {H P : ℕ} (F : LevelFacts H P)

/-- The map with its border of zeros. -/
def border (x : FVec Ideal ⟨4, ![2, 256, H, H]⟩ .f32) : FVec Ideal ⟨4, ![2, 256, P, P]⟩ .f32 :=
  Idealize.ShloMosaic.pad ⟨4, ![2, 256, P, P]⟩ ![0, 0, 1, 1] ![0, 0, 1, 1] ![0, 0, 0, 0] x
    (sitofp .f32 (constantI ⟨0, ![]⟩ 32 0#32) : FVec Ideal ⟨0, ![]⟩ .f32) F.pads F.one

/-- One of the nine products. -/
def shifted (K : FVec Ideal ⟨4, ![256, 256, 3, 3]⟩ .f32) (x : FVec Ideal ⟨4, ![2, 256, H, H]⟩ .f32) (ky kx : ℕ) (hy : ky < 3) (hx : kx < 3) :
    FVec Ideal ⟨4, ![2, 256, H, H]⟩ .f32 :=
  mix F.m (extractStridedSlice ⟨4, ![256, 256, 1, 1]⟩ ![0, 0, ky, kx] K (slices_kernel ky kx hy hx))
    (extractStridedSlice ⟨4, ![2, 256, H, H]⟩ ![0, 0, ky, kx] (border F x) (slices_map F.hP ky kx hy hx))

/-- A map of zeros. -/
def zeros : FVec Ideal ⟨4, ![2, 256, H, H]⟩ .f32 :=
  broadcastInDim ⟨4, ![2, 256, H, H]⟩ ![] F.z (constant ⟨0, ![]⟩ .f32 0x00000000#32 : FVec Ideal ⟨0, ![]⟩ .f32)

/-- The nine products added up. -/
def conv (K : FVec Ideal ⟨4, ![256, 256, 3, 3]⟩ .f32) (x : FVec Ideal ⟨4, ![2, 256, H, H]⟩ .f32) : FVec Ideal ⟨4, ![2, 256, H, H]⟩ .f32 :=
  addf (addf (addf (addf (addf (addf (addf (addf (addf (zeros F) (shifted F K x 0 0 (by omega) (by omega)))
    (shifted F K x 0 1 (by omega) (by omega))) (shifted F K x 0 2 (by omega) (by omega)))
    (shifted F K x 1 0 (by omega) (by omega))) (shifted F K x 1 1 (by omega) (by omega)))
    (shifted F K x 1 2 (by omega) (by omega))) (shifted F K x 2 0 (by omega) (by omega)))
    (shifted F K x 2 1 (by omega) (by omega))) (shifted F K x 2 2 (by omega) (by omega))

/-- The convolution with its bias, the negative part cut off. -/
def mid (K : FVec Ideal ⟨4, ![256, 256, 3, 3]⟩ .f32) (b : FVec Ideal ⟨1, ![256]⟩ .f32) (x : FVec Ideal ⟨4, ![2, 256, H, H]⟩ .f32) :
    FVec Ideal ⟨4, ![2, 256, H, H]⟩ .f32 := maximumf (addf (conv F K x) (spread F.m b)) (zeros F)

/-- A 1 by 1 convolution with its bias. -/
def point {O : ℕ} (G : MixFacts O H) (W : FVec Ideal ⟨4, ![O, 256, 1, 1]⟩ .f32) (b : FVec Ideal ⟨1, ![O]⟩ .f32)
    (u : FVec Ideal ⟨4, ![2, 256, H, H]⟩ .f32) : FVec Ideal ⟨4, ![2, O, H, H]⟩ .f32 := addf (mix G W u) (spread G b)

/-- The bordered map at an index. -/
theorem border_apply (x : FVec Ideal ⟨4, ![2, 256, H, H]⟩ .f32) (n : Fin 2) (c : Fin 256) (y w : Fin P) :
    border F x (ix4 n c y w) = pad H H (rows x n) c y w := by
  unfold border pad
  have hP := F.hP
  by_cases h : 1 ≤ y.val ∧ y.val ≤ H ∧ 1 ≤ w.val ∧ w.val ≤ H
  · rw [if_pos h]
    have h1 : ((y.val - 1) * H + (w.val - 1)) / H = y.val - 1 := by
      rw [Nat.mul_comm, Nat.mul_add_div (by omega), Nat.div_eq_of_lt (by omega), Nat.add_zero]
    have h2 : ((y.val - 1) * H + (w.val - 1)) % H = w.val - 1 := by
      rw [Nat.mul_comm, Nat.mul_add_mod, Nat.mod_eq_of_lt (by omega)]
    unfold rows
    rw [h1, h2, rd4_eq x n c (y.val - 1) (w.val - 1) n.isLt c.isLt (by omega) (by omega)]
    refine pad_apply_of_inside _ _ _ _ _ F.pads F.one _ _ ?_
    intro a; match a with
    | ⟨0, _⟩ => show n.val = 0 + n.val * 1; omega
    | ⟨1, _⟩ => show c.val = 0 + c.val * 1; omega
    | ⟨2, _⟩ => show y.val = 1 + (y.val - 1) * 1; omega
    | ⟨3, _⟩ => show w.val = 1 + (w.val - 1) * 1; omega
  · rw [if_neg h]
    have out : ∀ a : Fin 4, ¬(![0, 0, 1, 1] a ≤ ((ix4 n c y w : (⟨4, ![2, 256, P, P]⟩ : Shape).Idx) a).val ∧
        (((ix4 n c y w : (⟨4, ![2, 256, P, P]⟩ : Shape).Idx) a).val - ![0, 0, 1, 1] a) % (![0, 0, 0, 0] a + 1) = 0 ∧
        (((ix4 n c y w : (⟨4, ![2, 256, P, P]⟩ : Shape).Idx) a).val - ![0, 0, 1, 1] a) / (![0, 0, 0, 0] a + 1)
          < (⟨4, ![2, 256, H, H]⟩ : Shape).size a) →
        Idealize.ShloMosaic.pad ⟨4, ![2, 256, P, P]⟩ ![0, 0, 1, 1] ![0, 0, 1, 1] ![0, 0, 0, 0] x
          (sitofp .f32 (constantI ⟨0, ![]⟩ 32 0#32) : FVec Ideal ⟨0, ![]⟩ .f32) F.pads F.one (ix4 n c y w) = 0 := fun a ha =>
      (pad_apply_of_not_inside _ _ _ x _ F.pads F.one _ a ha).trans sitofp_zero
    by_cases hy : 1 ≤ y.val ∧ y.val ≤ H
    · refine out 3 ?_
      show ¬(1 ≤ w.val ∧ (w.val - 1) % 1 = 0 ∧ (w.val - 1) / 1 < H)
      rw [Nat.div_one]; omega
    · refine out 2 ?_
      show ¬(1 ≤ y.val ∧ (y.val - 1) % 1 = 0 ∧ (y.val - 1) / 1 < H)
      rw [Nat.div_one]; omega

/-- The products at output channel `o`, row `y`, column `w`: one kernel position's sum over the channels. -/
def pos (X : ℕ → ℕ → ℕ → EReal) (K : ℕ → ℕ → ℕ → ℕ → EReal) (o y w ky kx : ℕ) : EReal :=
  ∑ c : Fin 256, X c (y + ky) (w + kx) * K o c ky kx

/-- One of the nine products at an index. -/
theorem shifted_apply (K : FVec Ideal ⟨4, ![256, 256, 3, 3]⟩ .f32) (x : FVec Ideal ⟨4, ![2, 256, H, H]⟩ .f32) (ky kx : ℕ) (hy : ky < 3)
    (hx : kx < 3) (n : Fin 2) (o : Fin 256) (y w : Fin H) :
    shifted F K x ky kx hy hx (ix4 n o y w) = pos (pad H H (rows x n)) (rd4 K) o y w ky kx := by
  unfold shifted pos
  have hP := F.hP
  rw [mix_apply]
  refine Finset.sum_congr rfl fun c _ => ?_
  rw [extractStridedSlice_apply _ K (slices_kernel ky kx hy hx) _ (ix4 o c ⟨ky, hy⟩ ⟨kx, hx⟩) ?_,
    extractStridedSlice_apply _ _ (slices_map F.hP ky kx hy hx) _ (ix4 n c ⟨y.val + ky, by omega⟩ ⟨w.val + kx, by omega⟩) ?_,
    border_apply, rd4_eq K o c ky kx o.isLt c.isLt hy hx, mul_comm]
  · intro a; match a with
    | ⟨0, _⟩ => exact (Nat.zero_add _).symm
    | ⟨1, _⟩ => exact (Nat.zero_add _).symm
    | ⟨2, _⟩ => exact Nat.add_comm _ _
    | ⟨3, _⟩ => exact Nat.add_comm _ _
  · intro a; match a with
    | ⟨0, _⟩ => exact (Nat.zero_add _).symm
    | ⟨1, _⟩ => exact (Nat.zero_add _).symm
    | ⟨2, _⟩ => exact (Nat.add_zero _).symm
    | ⟨3, _⟩ => exact (Nat.add_zero _).symm

/-- A map of zeros at an index. -/
theorem zeros_apply (j : (⟨4, ![2, 256, H, H]⟩ : Shape).Idx) : zeros F j = 0 := by
  unfold zeros broadcastInDim
  show Ideal.ofBits .f32 (0x00000000#32 : BitVec 32) = 0
  simp [Ideal.ofBits, Ideal.ieee]

/-- One column of the kernel is its three positions. -/
theorem tap_eq (X : ℕ → ℕ → ℕ → EReal) (K : ℕ → ℕ → ℕ → ℕ → EReal) (o y w kx : ℕ) :
    tap X K o y w kx = pos X K o y w 0 kx + pos X K o y w 1 kx + pos X K o y w 2 kx := by
  unfold tap pos
  rw [Fin.sum_univ_three]
  rfl

/-- The convolution at an index is the sum of the kernel's three columns. -/
theorem conv_apply (K : FVec Ideal ⟨4, ![256, 256, 3, 3]⟩ .f32) (x : FVec Ideal ⟨4, ![2, 256, H, H]⟩ .f32) (n : Fin 2) (o : Fin 256)
    (y w : Fin H) : conv F K x (ix4 n o y w) = tap (pad H H (rows x n)) (rd4 K) o y w 0 + tap (pad H H (rows x n)) (rd4 K) o y w 1
      + tap (pad H H (rows x n)) (rd4 K) o y w 2 := by
  unfold conv
  simp only [ValueIdx.addf_apply, shifted_apply, zeros_apply, tap_eq, zero_add]
  ac_rfl

/-- The rectified convolution at an index. -/
theorem mid_apply (K : FVec Ideal ⟨4, ![256, 256, 3, 3]⟩ .f32) (b : FVec Ideal ⟨1, ![256]⟩ .f32) (x : FVec Ideal ⟨4, ![2, 256, H, H]⟩ .f32)
    (n : Fin 2) (o : Fin 256) (y w : Fin H) : mid F K b x (ix4 n o y w) = inter (pad H H (rows x n)) (rd4 K) (rd1 b) o y w := by
  unfold mid inter
  rw [ValueIdx.maximumf_apply, ValueIdx.addf_apply, conv_apply, spread_apply, zeros_apply, rd1_eq b o o.isLt]

/-- A 1 by 1 convolution of it at an index. -/
theorem point_apply {O : ℕ} (G : MixFacts O H) (W : FVec Ideal ⟨4, ![O, 256, 1, 1]⟩ .f32) (bh : FVec Ideal ⟨1, ![O]⟩ .f32)
    (K : FVec Ideal ⟨4, ![256, 256, 3, 3]⟩ .f32) (b : FVec Ideal ⟨1, ![256]⟩ .f32) (x : FVec Ideal ⟨4, ![2, 256, H, H]⟩ .f32)
    (n : Fin 2) (o : Fin O) (y w : Fin H) : point G W bh (mid F K b x) (ix4 n o y w)
      = head (pad H H (rows x n)) (rd4 K) (rd1 b) (fun c j => rd4 W j c 0 0) (rd1 bh) o y w := by
  unfold point head
  rw [ValueIdx.addf_apply, mix_apply, spread_apply, rd1_eq bh o o.isLt]
  refine congrArg (· + _) (Finset.sum_congr rfl fun k _ => ?_)
  rw [mid_apply]
  show _ = rd4 W o k 0 0 * _
  rw [rd4_eq W o k 0 0 o.isLt k.isLt (by omega) (by omega)]
  rfl

/-- The shape conditions of the two results' parts of one map: `M3` is `3 * H * H`. -/
structure PartFacts (H M3 : ℕ) : Prop where
  g3 : MixFacts 3 H
  g12 : MixFacts 12 H
  t3 : Shape.Transposes ⟨4, ![2, 3, H, H]⟩ [0, 2, 3, 1] ⟨4, ![2, H, H, 3]⟩
  c3 : Shape.ShapeCasts ⟨4, ![2, H, H, 3]⟩ ⟨2, ![2, M3]⟩
  s12 : Shape.ShapeCasts ⟨4, ![2, 12, H, H]⟩ ⟨5, ![2, 3, 4, H, H]⟩
  t12 : Shape.Transposes ⟨5, ![2, 3, 4, H, H]⟩ [0, 3, 4, 1, 2] ⟨5, ![2, H, H, 3, 4]⟩
  c12 : Shape.ShapeCasts ⟨5, ![2, H, H, 3, 4]⟩ ⟨3, ![2, M3, 4]⟩
  hM : M3 = H * H * 3

variable {M3 : ℕ} (G : PartFacts H M3)

/-- One map's part of the classes. -/
def logits (K : FVec Ideal ⟨4, ![256, 256, 3, 3]⟩ .f32) (b : FVec Ideal ⟨1, ![256]⟩ .f32) (W : FVec Ideal ⟨4, ![3, 256, 1, 1]⟩ .f32)
    (bh : FVec Ideal ⟨1, ![3]⟩ .f32) (x : FVec Ideal ⟨4, ![2, 256, H, H]⟩ .f32) : FVec Ideal ⟨2, ![2, M3]⟩ .f32 :=
  shapeCast ⟨2, ![2, M3]⟩ (transpose ⟨4, ![2, H, H, 3]⟩ [0, 2, 3, 1] (point G.g3 W bh (mid F K b x)) G.t3) G.c3

/-- One map's part of the boxes. -/
def deltas (K : FVec Ideal ⟨4, ![256, 256, 3, 3]⟩ .f32) (b : FVec Ideal ⟨1, ![256]⟩ .f32) (W : FVec Ideal ⟨4, ![12, 256, 1, 1]⟩ .f32)
    (bh : FVec Ideal ⟨1, ![12]⟩ .f32) (x : FVec Ideal ⟨4, ![2, 256, H, H]⟩ .f32) : FVec Ideal ⟨3, ![2, M3, 4]⟩ .f32 :=
  shapeCast ⟨3, ![2, M3, 4]⟩ (transpose ⟨5, ![2, H, H, 3, 4]⟩ [0, 3, 4, 1, 2]
    (shapeCast ⟨5, ![2, 3, 4, H, H]⟩ (point G.g12 W bh (mid F K b x)) G.s12) G.t12) G.c12

/-- The part of the classes at pixel `(y, w)`, class `a`. -/
theorem logits_apply (K : FVec Ideal ⟨4, ![256, 256, 3, 3]⟩ .f32) (b : FVec Ideal ⟨1, ![256]⟩ .f32) (W : FVec Ideal ⟨4, ![3, 256, 1, 1]⟩ .f32)
    (bh : FVec Ideal ⟨1, ![3]⟩ .f32) (x : FVec Ideal ⟨4, ![2, 256, H, H]⟩ .f32) (n : Fin 2) (a : Fin 3) (y w : Fin H) (r : Fin M3)
    (hr : r.val = (y.val * H + w.val) * 3 + a.val) : logits F G K b W bh x (ix2 n r)
      = head (pad H H (rows x n)) (rd4 K) (rd1 b) (fun c j => rd4 W j c 0 0) (rd1 bh) a y w := by
  unfold logits
  rw [shapeCast_apply _ G.c3 _ (ix4 n y w a) ?_, transpose_apply _ _ G.t3 _ (ix4 n a y w) ?_, point_apply]
  · intro b; match b with
    | ⟨0, _⟩ => rfl
    | ⟨1, _⟩ => rfl
    | ⟨2, _⟩ => rfl
    | ⟨3, _⟩ => rfl
  · rw [Shape.rowMajor_val_four, Shape.rowMajor_val_two]
    show ((n.val * H + y.val) * H + w.val) * 3 + a.val = n.val * M3 + r.val
    rw [hr, G.hM]; ring

/-- The part of the boxes at pixel `(y, w)`, class `a`, coordinate `d`. -/
theorem deltas_apply (K : FVec Ideal ⟨4, ![256, 256, 3, 3]⟩ .f32) (b : FVec Ideal ⟨1, ![256]⟩ .f32) (W : FVec Ideal ⟨4, ![12, 256, 1, 1]⟩ .f32)
    (bh : FVec Ideal ⟨1, ![12]⟩ .f32) (x : FVec Ideal ⟨4, ![2, 256, H, H]⟩ .f32) (n : Fin 2) (a : Fin 3) (d : Fin 4) (y w : Fin H)
    (r : Fin M3) (hr : r.val = (y.val * H + w.val) * 3 + a.val) : deltas F G K b W bh x (ix3 n r d)
      = head (pad H H (rows x n)) (rd4 K) (rd1 b) (fun c j => rd4 W j c 0 0) (rd1 bh) (a.val * 4 + d.val) y w := by
  unfold deltas
  rw [shapeCast_apply _ G.c12 _ (ix5 n y w a d) ?_, transpose_apply _ _ G.t12 _ (ix5 n a d y w) ?_,
    shapeCast_apply _ G.s12 _ (ix4 n (⟨a.val * 4 + d.val, by omega⟩ : Fin 12) y w) ?_, point_apply]
  · rw [Shape.rowMajor_val_four, Shape.rowMajor_val_five]
    show ((n.val * 12 + (a.val * 4 + d.val)) * H + y.val) * H + w.val = (((n.val * 3 + a.val) * 4 + d.val) * H + y.val) * H + w.val
    ring
  · intro b; match b with
    | ⟨0, _⟩ => rfl
    | ⟨1, _⟩ => rfl
    | ⟨2, _⟩ => rfl
    | ⟨3, _⟩ => rfl
    | ⟨4, _⟩ => rfl
  · rw [Shape.rowMajor_val_five, Shape.rowMajor_val_three]
    show (((n.val * H + y.val) * H + w.val) * 3 + a.val) * 4 + d.val = (n.val * M3 + r.val) * 4 + d.val
    rw [hr, G.hM]; ring

end Rpn.Plain

end
-- ==== Proof.RefResult.lean ====
module

public import proofs.«01_k».proof.Proof.RefLevel
public import proofs.«01_k».proof.Proof.Gen.ReferenceIdeal.Read

/-! The reference's two results at an index. -/

@[expose] public section

set_option maxRecDepth 16384

noncomputable section

namespace Cert.ReferenceIdeal.Hand
open Cert.ReferenceIdeal Cert.ReferenceIdeal.Gen Cert.ReferenceIdeal.Read Rpn Rpn.Plain
open Idealize.ShloMosaic Idealize.ShloMosaic.ValueIdx

/-- Map 0 meets the shape conditions of the convolution. -/
theorem lf0 : LevelFacts 128 130 where
  m := ⟨dot_S256x256_S2x256x128x128_S256x2x128x128_1_1_0_023_n_n_wf, transposes_S256x2x128x128_S2x256x128x128_1_0_2_3, shapeCasts_S256x256x1x1_S256x256, bcast_S256_S1x256x1x1_1, bcast_S1x256x1x1_S2x256x128x128_0_1_2_3, by decide⟩
  pads := pads_S2x256x128x128_S2x256x130x130_000_000_110_110
  one := h_S_
  z := bcast_S_S2x256x128x128
  hP := rfl

/-- Map 0 meets those of the two results' parts. -/
theorem part0 : PartFacts 128 49152 where
  g3 := ⟨dot_S3x256_S2x256x128x128_S3x2x128x128_1_1_0_023_n_n_wf, transposes_S3x2x128x128_S2x3x128x128_1_0_2_3, shapeCasts_S3x256x1x1_S3x256, bcast_S3_S1x3x1x1_1, bcast_S1x3x1x1_S2x3x128x128_0_1_2_3, by decide⟩
  g12 := ⟨dot_S12x256_S2x256x128x128_S12x2x128x128_1_1_0_023_n_n_wf, transposes_S12x2x128x128_S2x12x128x128_1_0_2_3, shapeCasts_S12x256x1x1_S12x256, bcast_S12_S1x12x1x1_1, bcast_S1x12x1x1_S2x12x128x128_0_1_2_3, by decide⟩
  t3 := transposes_S2x3x128x128_S2x128x128x3_0_2_3_1
  c3 := shapeCasts_S2x128x128x3_S2x49152
  s12 := shapeCasts_S2x12x128x128_S2x3x4x128x128
  t12 := transposes_S2x3x4x128x128_S2x128x128x3x4_0_3_4_1_2
  c12 := shapeCasts_S2x128x128x3x4_S2x49152x4
  hM := rfl

/-- Map 1 meets the shape conditions of the convolution. -/
theorem lf1 : LevelFacts 64 66 where
  m := ⟨dot_S256x256_S2x256x64x64_S256x2x64x64_1_1_0_023_n_n_wf, transposes_S256x2x64x64_S2x256x64x64_1_0_2_3, shapeCasts_S256x256x1x1_S256x256, bcast_S256_S1x256x1x1_1, bcast_S1x256x1x1_S2x256x64x64_0_1_2_3, by decide⟩
  pads := pads_S2x256x64x64_S2x256x66x66_000_000_110_110
  one := h_S_
  z := bcast_S_S2x256x64x64
  hP := rfl

/-- Map 1 meets those of the two results' parts. -/
theorem part1 : PartFacts 64 12288 where
  g3 := ⟨dot_S3x256_S2x256x64x64_S3x2x64x64_1_1_0_023_n_n_wf, transposes_S3x2x64x64_S2x3x64x64_1_0_2_3, shapeCasts_S3x256x1x1_S3x256, bcast_S3_S1x3x1x1_1, bcast_S1x3x1x1_S2x3x64x64_0_1_2_3, by decide⟩
  g12 := ⟨dot_S12x256_S2x256x64x64_S12x2x64x64_1_1_0_023_n_n_wf, transposes_S12x2x64x64_S2x12x64x64_1_0_2_3, shapeCasts_S12x256x1x1_S12x256, bcast_S12_S1x12x1x1_1, bcast_S1x12x1x1_S2x12x64x64_0_1_2_3, by decide⟩
  t3 := transposes_S2x3x64x64_S2x64x64x3_0_2_3_1
  c3 := shapeCasts_S2x64x64x3_S2x12288
  s12 := shapeCasts_S2x12x64x64_S2x3x4x64x64
  t12 := transposes_S2x3x4x64x64_S2x64x64x3x4_0_3_4_1_2
  c12 := shapeCasts_S2x64x64x3x4_S2x12288x4
  hM := rfl

/-- Map 2 meets the shape conditions of the convolution. -/
theorem lf2 : LevelFacts 32 34 where
  m := ⟨dot_S256x256_S2x256x32x32_S256x2x32x32_1_1_0_023_n_n_wf, transposes_S256x2x32x32_S2x256x32x32_1_0_2_3, shapeCasts_S256x256x1x1_S256x256, bcast_S256_S1x256x1x1_1, bcast_S1x256x1x1_S2x256x32x32_0_1_2_3, by decide⟩
  pads := pads_S2x256x32x32_S2x256x34x34_000_000_110_110
  one := h_S_
  z := bcast_S_S2x256x32x32
  hP := rfl

/-- Map 2 meets those of the two results' parts. -/
theorem part2 : PartFacts 32 3072 where
  g3 := ⟨dot_S3x256_S2x256x32x32_S3x2x32x32_1_1_0_023_n_n_wf, transposes_S3x2x32x32_S2x3x32x32_1_0_2_3, shapeCasts_S3x256x1x1_S3x256, bcast_S3_S1x3x1x1_1, bcast_S1x3x1x1_S2x3x32x32_0_1_2_3, by decide⟩
  g12 := ⟨dot_S12x256_S2x256x32x32_S12x2x32x32_1_1_0_023_n_n_wf, transposes_S12x2x32x32_S2x12x32x32_1_0_2_3, shapeCasts_S12x256x1x1_S12x256, bcast_S12_S1x12x1x1_1, bcast_S1x12x1x1_S2x12x32x32_0_1_2_3, by decide⟩
  t3 := transposes_S2x3x32x32_S2x32x32x3_0_2_3_1
  c3 := shapeCasts_S2x32x32x3_S2x3072
  s12 := shapeCasts_S2x12x32x32_S2x3x4x32x32
  t12 := transposes_S2x3x4x32x32_S2x32x32x3x4_0_3_4_1_2
  c12 := shapeCasts_S2x32x32x3x4_S2x3072x4
  hM := rfl

/-- Map 3 meets the shape conditions of the convolution. -/
theorem lf3 : LevelFacts 16 18 where
  m := ⟨dot_S256x256_S2x256x16x16_S256x2x16x16_1_1_0_023_n_n_wf, transposes_S256x2x16x16_S2x256x16x16_1_0_2_3, shapeCasts_S256x256x1x1_S256x256, bcast_S256_S1x256x1x1_1, bcast_S1x256x1x1_S2x256x16x16_0_1_2_3, by decide⟩
  pads := pads_S2x256x16x16_S2x256x18x18_000_000_110_110
  one := h_S_
  z := bcast_S_S2x256x16x16
  hP := rfl

/-- Map 3 meets those of the two results' parts. -/
theorem part3 : PartFacts 16 768 where
  g3 := ⟨dot_S3x256_S2x256x16x16_S3x2x16x16_1_1_0_023_n_n_wf, transposes_S3x2x16x16_S2x3x16x16_1_0_2_3, shapeCasts_S3x256x1x1_S3x256, bcast_S3_S1x3x1x1_1, bcast_S1x3x1x1_S2x3x16x16_0_1_2_3, by decide⟩
  g12 := ⟨dot_S12x256_S2x256x16x16_S12x2x16x16_1_1_0_023_n_n_wf, transposes_S12x2x16x16_S2x12x16x16_1_0_2_3, shapeCasts_S12x256x1x1_S12x256, bcast_S12_S1x12x1x1_1, bcast_S1x12x1x1_S2x12x16x16_0_1_2_3, by decide⟩
  t3 := transposes_S2x3x16x16_S2x16x16x3_0_2_3_1
  c3 := shapeCasts_S2x16x16x3_S2x768
  s12 := shapeCasts_S2x12x16x16_S2x3x4x16x16
  t12 := transposes_S2x3x4x16x16_S2x16x16x3x4_0_3_4_1_2
  c12 := shapeCasts_S2x16x16x3x4_S2x768x4
  hM := rfl

/-- Map 4 meets the shape conditions of the convolution. -/
theorem lf4 : LevelFacts 8 10 where
  m := ⟨dot_S256x256_S2x256x8x8_S256x2x8x8_1_1_0_023_n_n_wf, transposes_S256x2x8x8_S2x256x8x8_1_0_2_3, shapeCasts_S256x256x1x1_S256x256, bcast_S256_S1x256x1x1_1, bcast_S1x256x1x1_S2x256x8x8_0_1_2_3, by decide⟩
  pads := pads_S2x256x8x8_S2x256x10x10_000_000_110_110
  one := h_S_
  z := bcast_S_S2x256x8x8
  hP := rfl

/-- Map 4 meets those of the two results' parts. -/
theorem part4 : PartFacts 8 192 where
  g3 := ⟨dot_S3x256_S2x256x8x8_S3x2x8x8_1_1_0_023_n_n_wf, transposes_S3x2x8x8_S2x3x8x8_1_0_2_3, shapeCasts_S3x256x1x1_S3x256, bcast_S3_S1x3x1x1_1, bcast_S1x3x1x1_S2x3x8x8_0_1_2_3, by decide⟩
  g12 := ⟨dot_S12x256_S2x256x8x8_S12x2x8x8_1_1_0_023_n_n_wf, transposes_S12x2x8x8_S2x12x8x8_1_0_2_3, shapeCasts_S12x256x1x1_S12x256, bcast_S12_S1x12x1x1_1, bcast_S1x12x1x1_S2x12x8x8_0_1_2_3, by decide⟩
  t3 := transposes_S2x3x8x8_S2x8x8x3_0_2_3_1
  c3 := shapeCasts_S2x8x8x3_S2x192
  s12 := shapeCasts_S2x12x8x8_S2x3x4x8x8
  t12 := transposes_S2x3x4x8x8_S2x8x8x3x4_0_3_4_1_2
  c12 := shapeCasts_S2x8x8x3x4_S2x192x4
  hM := rfl

/-- Map 0's classes are the ones stated for every size. -/
theorem logits0 (I : Input) : val_main_v74 (F := Ideal) I.x0 I.x7 I.x8 I.x9 I.x10 = logits lf0 part0 I.x7 I.x8 I.x9 I.x10 I.x0 := rfl
/-- Map 0's boxes are the ones stated for every size. -/
theorem deltas0 (I : Input) : val_main_v77 (F := Ideal) I.x0 I.x7 I.x8 I.x11 I.x12 = deltas lf0 part0 I.x7 I.x8 I.x11 I.x12 I.x0 := rfl

/-- Map 1's classes are the ones stated for every size. -/
theorem logits1 (I : Input) : val_main_v152 (F := Ideal) I.x1 I.x7 I.x8 I.x9 I.x10 = logits lf1 part1 I.x7 I.x8 I.x9 I.x10 I.x1 := rfl
/-- Map 1's boxes are the ones stated for every size. -/
theorem deltas1 (I : Input) : val_main_v155 (F := Ideal) I.x1 I.x7 I.x8 I.x11 I.x12 = deltas lf1 part1 I.x7 I.x8 I.x11 I.x12 I.x1 := rfl

/-- Map 2's classes are the ones stated for every size. -/
theorem logits2 (I : Input) : val_main_v230 (F := Ideal) I.x2 I.x7 I.x8 I.x9 I.x10 = logits lf2 part2 I.x7 I.x8 I.x9 I.x10 I.x2 := rfl
/-- Map 2's boxes are the ones stated for every size. -/
theorem deltas2 (I : Input) : val_main_v233 (F := Ideal) I.x2 I.x7 I.x8 I.x11 I.x12 = deltas lf2 part2 I.x7 I.x8 I.x11 I.x12 I.x2 := rfl

/-- Map 3's classes are the ones stated for every size. -/
theorem logits3 (I : Input) : val_main_v308 (F := Ideal) I.x3 I.x7 I.x8 I.x9 I.x10 = logits lf3 part3 I.x7 I.x8 I.x9 I.x10 I.x3 := rfl
/-- Map 3's boxes are the ones stated for every size. -/
theorem deltas3 (I : Input) : val_main_v311 (F := Ideal) I.x3 I.x7 I.x8 I.x11 I.x12 = deltas lf3 part3 I.x7 I.x8 I.x11 I.x12 I.x3 := rfl

/-- Map 4's classes are the ones stated for every size. -/
theorem logits4 (I : Input) : val_main_v386 (F := Ideal) I.x4 I.x7 I.x8 I.x9 I.x10 = logits lf4 part4 I.x7 I.x8 I.x9 I.x10 I.x4 := rfl
/-- Map 4's boxes are the ones stated for every size. -/
theorem deltas4 (I : Input) : val_main_v389 (F := Ideal) I.x4 I.x7 I.x8 I.x11 I.x12 = deltas lf4 part4 I.x7 I.x8 I.x11 I.x12 I.x4 := rfl

/-- The parts of the first result, one map after the other. -/
def logitParts (I : Input) : List ((s : Shape) × (s.Idx → EReal)) :=
  [⟨S2x49152, logits lf0 part0 I.x7 I.x8 I.x9 I.x10 I.x0⟩, ⟨S2x12288, logits lf1 part1 I.x7 I.x8 I.x9 I.x10 I.x1⟩,
    ⟨S2x3072, logits lf2 part2 I.x7 I.x8 I.x9 I.x10 I.x2⟩, ⟨S2x768, logits lf3 part3 I.x7 I.x8 I.x9 I.x10 I.x3⟩,
    ⟨S2x192, logits lf4 part4 I.x7 I.x8 I.x9 I.x10 I.x4⟩]

/-- The parts of the second. -/
def deltaParts (I : Input) : List ((s : Shape) × (s.Idx → EReal)) :=
  [⟨S2x49152x4, deltas lf0 part0 I.x7 I.x8 I.x11 I.x12 I.x0⟩, ⟨S2x12288x4, deltas lf1 part1 I.x7 I.x8 I.x11 I.x12 I.x1⟩,
    ⟨S2x3072x4, deltas lf2 part2 I.x7 I.x8 I.x11 I.x12 I.x2⟩, ⟨S2x768x4, deltas lf3 part3 I.x7 I.x8 I.x11 I.x12 I.x3⟩,
    ⟨S2x192x4, deltas lf4 part4 I.x7 I.x8 I.x11 I.x12 I.x4⟩]

/-- The first result is its parts joined. -/
theorem v390_parts (I : Input) : val_main_v390 (F := Ideal) I.x0 I.x1 I.x2 I.x3 I.x4 I.x7 I.x8 I.x9 I.x10
    = concatenate S2x65472 1 (logitParts I) concatenates_S2x49152_S2x12288_S2x3072_S2x768_S2x192_S2x65472_d1 := by
  unfold val_main_v390
  rw [logits0, logits1, logits2, logits3, logits4]
  rfl

/-- The second result is its parts joined. -/
theorem v391_parts (I : Input) : val_main_v391 (F := Ideal) I.x0 I.x1 I.x2 I.x3 I.x4 I.x7 I.x8 I.x11 I.x12
    = concatenate S2x65472x4 1 (deltaParts I) concatenates_S2x49152x4_S2x12288x4_S2x3072x4_S2x768x4_S2x192x4_S2x65472x4_d1 := by
  unfold val_main_v391
  rw [deltas0, deltas1, deltas2, deltas3, deltas4]
  rfl

/-- Where a pixel's values start in a map's part lies inside it. -/
theorem part_lt {H y w a : ℕ} (hy : y < H) (hw : w < H) (ha : a < 3) : (y * H + w) * 3 + a < H * H * 3 := by
  have h : y * H + w < H * H := by
    calc y * H + w < y * H + H := by omega
      _ = (y + 1) * H := by ring
      _ ≤ H * H := Nat.mul_le_mul_right _ hy
  omega

/-- The reference's first result at class `a` of pixel `(y, w)` of map `l`. -/
theorem v390_value (I : Input) (n : Fin 2) (a : Fin 3) (r : Fin 65472) (l : Fin 5) (y w : ℕ) (hy : y < lvH l) (hw : w < lvH l)
    (hr : r.val = (lvP l + (y * lvH l + w)) * 3 + a.val) :
    val_main_v390 (F := Ideal) I.x0 I.x1 I.x2 I.x3 I.x4 I.x7 I.x8 I.x9 I.x10 (ix2 n r) = I.value l n a y w := by
  rw [v390_parts]
  have step : ∀ {H P M : ℕ} (F : LevelFacts H P) (G : PartFacts H M) (x : FVec Ideal ⟨4, ![2, 256, H, H]⟩ .f32) (k pre : ℕ)
      (hk : k < (logitParts I).length) (_ : (logitParts I)[k] = ⟨⟨2, ![2, M]⟩, logits F G I.x7 I.x8 I.x9 I.x10 x⟩)
      (_ : ((((logitParts I).take k).map (·.1)).map fun s => if h : s.rank = S2x65472.rank then s.size ((1 : Fin S2x65472.rank).cast h.symm) else 0).sum = pre * 3),
      y < H → w < H → r.val = (pre + (y * H + w)) * 3 + a.val →
      concatenate S2x65472 1 (logitParts I) concatenates_S2x49152_S2x12288_S2x3072_S2x768_S2x192_S2x65472_d1 (ix2 n r)
        = head (pad H H (rows x n)) (rd4 I.x7) (rd1 I.x8) (weightOf I.x9 I.x11) (biasOf I.x10 I.x12) a y w := by
    intro H P M F G x k pre hk hx hpre hy hw hr
    have hM : (y * H + w) * 3 + a.val < M := by rw [G.hM]; exact part_lt hy hw a.isLt
    refine (concatenate_apply_piece 1 (logitParts I) _ (ix2 n r) k hk ⟨2, ![2, M]⟩ _ hx rfl (pre * 3) hpre
        (ix2 n (⟨(y * H + w) * 3 + a.val, hM⟩ : Fin M)) ?_ ?_).trans ?_
    · intro b hb; match b with
      | ⟨0, _⟩ => rfl
      | ⟨1, _⟩ => exact absurd rfl hb
    · show pre * 3 + ((y * H + w) * 3 + a.val) = r.val
      rw [hr]; ring
    · rw [logits_apply F G _ _ _ _ x n a ⟨y, hy⟩ ⟨w, hw⟩ _ rfl]
      exact head_congr rfl (fun _ _ _ _ _ _ _ _ => rfl) (fun _ _ => rfl) (fun _ _ => (if_pos a.isLt).symm) (if_pos a.isLt).symm
  match l, hy, hw, hr with
  | 0, hy, hw, hr => exact step lf0 part0 I.x0 0 0 (by simp [logitParts]) rfl rfl hy hw hr
  | 1, hy, hw, hr => exact step lf1 part1 I.x1 1 16384 (by simp [logitParts]) rfl rfl hy hw hr
  | 2, hy, hw, hr => exact step lf2 part2 I.x2 2 20480 (by simp [logitParts]) rfl rfl hy hw hr
  | 3, hy, hw, hr => exact step lf3 part3 I.x3 3 21504 (by simp [logitParts]) rfl rfl hy hw hr
  | 4, hy, hw, hr => exact step lf4 part4 I.x4 4 21760 (by simp [logitParts]) rfl rfl hy hw hr

/-- The reference's second result at coordinate `d` of class `a` of pixel `(y, w)` of map `l`. -/
theorem v391_value (I : Input) (n : Fin 2) (a : Fin 3) (d : Fin 4) (r : Fin 65472) (l : Fin 5) (y w : ℕ) (hy : y < lvH l) (hw : w < lvH l)
    (hr : r.val = (lvP l + (y * lvH l + w)) * 3 + a.val) :
    val_main_v391 (F := Ideal) I.x0 I.x1 I.x2 I.x3 I.x4 I.x7 I.x8 I.x11 I.x12 (ix3 n r d) = I.value l n (3 + (a.val * 4 + d.val)) y w := by
  rw [v391_parts]
  have step : ∀ {H P M : ℕ} (F : LevelFacts H P) (G : PartFacts H M) (x : FVec Ideal ⟨4, ![2, 256, H, H]⟩ .f32) (k pre : ℕ)
      (hk : k < (deltaParts I).length) (_ : (deltaParts I)[k] = ⟨⟨3, ![2, M, 4]⟩, deltas F G I.x7 I.x8 I.x11 I.x12 x⟩)
      (_ : ((((deltaParts I).take k).map (·.1)).map fun s => if h : s.rank = S2x65472x4.rank then s.size ((1 : Fin S2x65472x4.rank).cast h.symm) else 0).sum = pre * 3),
      y < H → w < H → r.val = (pre + (y * H + w)) * 3 + a.val →
      concatenate S2x65472x4 1 (deltaParts I) concatenates_S2x49152x4_S2x12288x4_S2x3072x4_S2x768x4_S2x192x4_S2x65472x4_d1 (ix3 n r d)
        = head (pad H H (rows x n)) (rd4 I.x7) (rd1 I.x8) (weightOf I.x9 I.x11) (biasOf I.x10 I.x12) (3 + (a.val * 4 + d.val)) y w := by
    intro H P M F G x k pre hk hx hpre hy hw hr
    have hM : (y * H + w) * 3 + a.val < M := by rw [G.hM]; exact part_lt hy hw a.isLt
    have h3 : ¬(3 + (a.val * 4 + d.val) < 3) := by omega
    have hs : 3 + (a.val * 4 + d.val) - 3 = a.val * 4 + d.val := Nat.add_sub_cancel_left _ _
    refine (concatenate_apply_piece 1 (deltaParts I) _ (ix3 n r d) k hk ⟨3, ![2, M, 4]⟩ _ hx rfl (pre * 3) hpre
        (ix3 n (⟨(y * H + w) * 3 + a.val, hM⟩ : Fin M) d) ?_ ?_).trans ?_
    · intro b hb; match b with
      | ⟨0, _⟩ => rfl
      | ⟨1, _⟩ => exact absurd rfl hb
      | ⟨2, _⟩ => rfl
    · show pre * 3 + ((y * H + w) * 3 + a.val) = r.val
      rw [hr]; ring
    · rw [deltas_apply F G _ _ _ _ x n a d ⟨y, hy⟩ ⟨w, hw⟩ _ rfl]
      unfold head
      have hb : biasOf I.x10 I.x12 (3 + (a.val * 4 + d.val)) = rd1 I.x12 (a.val * 4 + d.val) := by rw [biasOf, if_neg h3, hs]
      rw [hb]
      refine congrArg (· + _) (Finset.sum_congr rfl fun o _ => ?_)
      have hw : weightOf I.x9 I.x11 o (3 + (a.val * 4 + d.val)) = rd4 I.x11 (a.val * 4 + d.val) o 0 0 := by rw [weightOf, if_neg h3, hs]
      rw [hw]
  match l, hy, hw, hr with
  | 0, hy, hw, hr => exact step lf0 part0 I.x0 0 0 (by simp [deltaParts]) rfl rfl hy hw hr
  | 1, hy, hw, hr => exact step lf1 part1 I.x1 1 16384 (by simp [deltaParts]) rfl rfl hy hw hr
  | 2, hy, hw, hr => exact step lf2 part2 I.x2 2 20480 (by simp [deltaParts]) rfl rfl hy hw hr
  | 3, hy, hw, hr => exact step lf3 part3 I.x3 3 21504 (by simp [deltaParts]) rfl rfl hy hw hr
  | 4, hy, hw, hr => exact step lf4 part4 I.x4 4 21760 (by simp [deltaParts]) rfl rfl hy hw hr

end Cert.ReferenceIdeal.Hand

end
-- ==== Proof.Equation.lean ====
module

public import proofs.«01_k».proof.Proof.Array
public import proofs.«01_k».proof.Proof.RefResult

/-! The equation: the two results that the kernel's program ends with are the reference's, as functions of the arguments. -/

@[expose] public section

set_option maxRecDepth 16384

noncomputable section

namespace Cert.KernelIdeal.Hand
open Cert.KernelIdeal Cert.KernelIdeal.Gen Rpn
open Idealize.ShloMosaic hiding ix1 ix2 ix3 ix4
open Idealize.ShloMosaic.TcCoe Idealize.ShloMosaic.ValueIdx

/-- The reference's first result, of the arguments. -/
abbrev refClasses (I : Input) : FVec Ideal S2x65472 .f32 :=
  Cert.ReferenceIdeal.Read.val_main_v390 (F := Ideal) I.x0 I.x1 I.x2 I.x3 I.x4 I.x7 I.x8 I.x9 I.x10

/-- The reference's second result, of the arguments. -/
abbrev refBoxes (I : Input) : FVec Ideal S2x65472x4 .f32 :=
  Cert.ReferenceIdeal.Read.val_main_v391 (F := Ideal) I.x0 I.x1 I.x2 I.x3 I.x4 I.x7 I.x8 I.x11 I.x12

/-- Every anchor is a class of a pixel of one of the maps. -/
theorem exists_anchor (r : Fin 65472) : ∃ (l : Fin 5) (y w : ℕ) (a : Fin 3) (p : Fin 21824), y < lvH l ∧ w < lvH l ∧
    p.val = lvP l + (y * lvH l + w) ∧ r.val = p.val * 3 + a.val := by
  have hr := r.isLt
  obtain ⟨l, y, w, hy, hw, hp⟩ := exists_pixel (r.val / 3) (by omega)
  exact ⟨l, y, w, ⟨r.val % 3, by omega⟩, ⟨r.val / 3, by omega⟩, hy, hw, hp, (Nat.div_add_mod' _ _).symm⟩

variable (m : (ℓ : Loc nD τ sig) → Buf (Elt Ideal) ℓ) (c : Dev nD)

/-- The kernel's classes are the reference's. -/
theorem classes_eq : (Pipeline.afterTail₀ cfgs (dats m) 0 (V0 m) [hostOps1] c main_v46 : FVec Ideal S2x65472 .f32) = refClasses (input m c) := by
  rw [result_v46]
  funext j
  rw [ValueIdx.eq_ix2 j]
  obtain ⟨l, y, w, a, p, hy, hw, hp, hr⟩ := exists_anchor (j 1)
  exact (classes_value m c t0_0 (j 0) a (j 1) l y w hy hw p hp hr).trans
    (Cert.ReferenceIdeal.Hand.v390_value (input m c) (j 0) a (j 1) l y w hy hw (hp ▸ hr)).symm

/-- The kernel's boxes are the reference's. -/
theorem boxes_eq : (Pipeline.afterTail₀ cfgs (dats m) 0 (V0 m) [hostOps1] c main_v48 : FVec Ideal S2x65472x4 .f32) = refBoxes (input m c) := by
  rw [result_v48]
  funext j
  rw [ValueIdx.eq_ix3 j]
  obtain ⟨l, y, w, a, p, hy, hw, hp, hr⟩ := exists_anchor (j 1)
  exact (boxes_value m c t0_0 (j 0) a (j 2) (j 1) l y w hy hw p hp hr).trans
    (Cert.ReferenceIdeal.Hand.v391_value (input m c) (j 0) a (j 2) (j 1) l y w hy hw (hp ▸ hr)).symm

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference terminates, leaves its arguments unchanged and every counter at zero: it has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The arguments as they stand in the reference's memory. -/
def refInput (m : (ℓ : Loc Cert.ReferenceIdeal.nD Cert.ReferenceIdeal.τ Cert.ReferenceIdeal.sig) → Buf (Elt Ideal) ℓ)
    (c : Dev Cert.ReferenceIdeal.nD) : Rpn.Input where
  x0 := m ((c.tc : Thread Cert.ReferenceIdeal.nD Cert.ReferenceIdeal.τ).loc Cert.ReferenceIdeal.main_arg0)
  x1 := m ((c.tc : Thread Cert.ReferenceIdeal.nD Cert.ReferenceIdeal.τ).loc Cert.ReferenceIdeal.main_arg1)
  x2 := m ((c.tc : Thread Cert.ReferenceIdeal.nD Cert.ReferenceIdeal.τ).loc Cert.ReferenceIdeal.main_arg2)
  x3 := m ((c.tc : Thread Cert.ReferenceIdeal.nD Cert.ReferenceIdeal.τ).loc Cert.ReferenceIdeal.main_arg3)
  x4 := m ((c.tc : Thread Cert.ReferenceIdeal.nD Cert.ReferenceIdeal.τ).loc Cert.ReferenceIdeal.main_arg4)
  x7 := m ((c.tc : Thread Cert.ReferenceIdeal.nD Cert.ReferenceIdeal.τ).loc Cert.ReferenceIdeal.main_arg7)
  x8 := m ((c.tc : Thread Cert.ReferenceIdeal.nD Cert.ReferenceIdeal.τ).loc Cert.ReferenceIdeal.main_arg8)
  x9 := m ((c.tc : Thread Cert.ReferenceIdeal.nD Cert.ReferenceIdeal.τ).loc Cert.ReferenceIdeal.main_arg9)
  x10 := m ((c.tc : Thread Cert.ReferenceIdeal.nD Cert.ReferenceIdeal.τ).loc Cert.ReferenceIdeal.main_arg10)
  x11 := m ((c.tc : Thread Cert.ReferenceIdeal.nD Cert.ReferenceIdeal.τ).loc Cert.ReferenceIdeal.main_arg11)
  x12 := m ((c.tc : Thread Cert.ReferenceIdeal.nD Cert.ReferenceIdeal.τ).loc Cert.ReferenceIdeal.main_arg12)

/-- What the reference ends with, read off its memory: its first result. -/
theorem ref_classes (m : (ℓ : Loc Cert.ReferenceIdeal.nD Cert.ReferenceIdeal.τ Cert.ReferenceIdeal.sig) → Buf (Elt Ideal) ℓ)
    (c : Dev Cert.ReferenceIdeal.nD) (X : FVec Ideal ⟨2, ![2, 65472]⟩ .f32)
    (h : X = Cert.ReferenceIdeal.Read.val_main_v390 (F := Ideal)
      (StableHlo.launchContents m c (Proc.devRef .tc Cert.ReferenceIdeal.main_arg0))
      (StableHlo.launchContents m c (Proc.devRef .tc Cert.ReferenceIdeal.main_arg1))
      (StableHlo.launchContents m c (Proc.devRef .tc Cert.ReferenceIdeal.main_arg2))
      (StableHlo.launchContents m c (Proc.devRef .tc Cert.ReferenceIdeal.main_arg3))
      (StableHlo.launchContents m c (Proc.devRef .tc Cert.ReferenceIdeal.main_arg4))
      (StableHlo.launchContents m c (Proc.devRef .tc Cert.ReferenceIdeal.main_arg7))
      (StableHlo.launchContents m c (Proc.devRef .tc Cert.ReferenceIdeal.main_arg8))
      (StableHlo.launchContents m c (Proc.devRef .tc Cert.ReferenceIdeal.main_arg9))
      (StableHlo.launchContents m c (Proc.devRef .tc Cert.ReferenceIdeal.main_arg10))) :
    X = Cert.KernelIdeal.Hand.refClasses (refInput m c) := h

/-- Its second result. -/
theorem ref_boxes (m : (ℓ : Loc Cert.ReferenceIdeal.nD Cert.ReferenceIdeal.τ Cert.ReferenceIdeal.sig) → Buf (Elt Ideal) ℓ)
    (c : Dev Cert.ReferenceIdeal.nD) (X : FVec Ideal ⟨3, ![2, 65472, 4]⟩ .f32)
    (h : X = Cert.ReferenceIdeal.Read.val_main_v391 (F := Ideal)
      (StableHlo.launchContents m c (Proc.devRef .tc Cert.ReferenceIdeal.main_arg0))
      (StableHlo.launchContents m c (Proc.devRef .tc Cert.ReferenceIdeal.main_arg1))
      (StableHlo.launchContents m c (Proc.devRef .tc Cert.ReferenceIdeal.main_arg2))
      (StableHlo.launchContents m c (Proc.devRef .tc Cert.ReferenceIdeal.main_arg3))
      (StableHlo.launchContents m c (Proc.devRef .tc Cert.ReferenceIdeal.main_arg4))
      (StableHlo.launchContents m c (Proc.devRef .tc Cert.ReferenceIdeal.main_arg7))
      (StableHlo.launchContents m c (Proc.devRef .tc Cert.ReferenceIdeal.main_arg8))
      (StableHlo.launchContents m c (Proc.devRef .tc Cert.ReferenceIdeal.main_arg11))
      (StableHlo.launchContents m c (Proc.devRef .tc Cert.ReferenceIdeal.main_arg12))) :
    X = Cert.KernelIdeal.Hand.refBoxes (refInput m c) := h

/-- The kernel's two results are the reference's, over the extended reals. -/
theorem same_function : Cert.algebraic_KernelIdeal_ReferenceIdeal (hKernelIdeal := Cert.KernelIdeal.Gen.facts)
    (hReferenceIdeal := Cert.ReferenceIdeal.Gen.facts) := by
  intro m g m' g' _ hagree
  have hI : ∀ c : Dev Cert.KernelIdeal.nD, refInput m' c = Cert.KernelIdeal.Hand.input m c := fun c => by
    obtain ⟨h0, h1, h2, h3, h4, -, -, h7, h8, h9, h10, h11, h12⟩ := hagree c
    unfold refInput Cert.KernelIdeal.Hand.input
    rw [h0, h1, h2, h3, h4, h7, h8, h9, h10, h11, h12]
  refine ⟨fun c => Cert.KernelIdeal.Hand.refClasses (Cert.KernelIdeal.Hand.input m c),
    fun c => Cert.KernelIdeal.Hand.refBoxes (Cert.KernelIdeal.Hand.input m c), ?_, ?_⟩
  · refine (θ_run Cert.KernelIdeal.defs _ _).mono (fun r h c => ⟨?_, ?_, h.2 c⟩)
      (θ_run_and (Cert.KernelIdeal.Gen.run_main m g) (Cert.KernelIdeal.Gen.unchanged m g))
    · exact ((h.1 c).2 Cert.KernelIdeal.main_v46 (Pipeline.mem_restRefs_of _ (by decide) (by decide))).trans
        (Cert.KernelIdeal.Hand.classes_eq m c)
    · exact ((h.1 c).2 Cert.KernelIdeal.main_v48 (Pipeline.mem_restRefs_of _ (by decide) (by decide))).trans
        (Cert.KernelIdeal.Hand.boxes_eq m c)
  · refine (θ_run Cert.ReferenceIdeal.defs _ _).mono (fun r h c => ⟨?_, ?_, (h c).2.2⟩)
      (Cert.ReferenceIdeal.Value.run (F := Ideal) m' g')
    · exact (ref_classes m' c _ ((h c).1.trans (Cert.ReferenceIdeal.Read.val_main_v390_eq (StableHlo.launchContents m' c)))).trans
        (congrArg Cert.KernelIdeal.Hand.refClasses (hI c))
    · exact (ref_boxes m' c _ ((h c).2.1.trans (Cert.ReferenceIdeal.Read.val_main_v391_eq (StableHlo.launchContents m' c)))).trans
        (congrArg Cert.KernelIdeal.Hand.refBoxes (hI c))

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_function⟩

end Cert.Proof

end
